-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .bf16 0x3DB5#16 (((Real.sqrt 128)⁻¹ : ℝ) : EReal)
  ∧ IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v50) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .bf16) (main_arg1 : FVec F S1024x1024 .bf16) (main_arg2 : FVec F S1x1024x8x128 .bf16) (main_arg3 : FVec F S1x1024x8x128 .bf16) (main_arg4 : FVec F S1024x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x1024x8x128 .f32 := (extf .f32 · bitsLt_bf16_f32) main_arg2
  let main_v12 : FVec F S1x1024x8x128 .f32 := Host.absf main_v11
  let main_cst_2 : FVec F S_ .f32 := constant S_ .f32 0x7F800000#32
  let main_v13 : FVec F S1x1024x8x128 .f32 := broadcastInDim S1x1024x8x128 ![] bcast_S_S1x1024x8x128 main_cst_2
  let main_v14 : IVec S1x1024x8x128 1 := cmpf .olt main_v12 main_v13
  let main_c_3 : IVec S_ 1 := constantI S_ 1 1#1
  let main_v15 : IVec S_ 1 := (fun x v => Host.reduce IntOp.andi x v reducesTo_S1x1024x8x128_S_d0_1_2_3 h_S_) main_v14 main_c_3
  let main_v16 : IVec S_ 1 := andi main_v10 main_v15
  main_v16
-- ==== Pre_finite_ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x1024x1024 .bf16) (main_arg1 : FVec F S1024x1024 .bf16) (main_arg2 : FVec F S1x4096x8x128 .bf16) (main_arg3 : FVec F S1x4096x8x128 .bf16) (main_arg4 : FVec F S1024x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x4096x8x128 .f32 := (extf .f32 · bitsLt_bf16_f32) main_arg2
  let main_v12 : FVec F S1x4096x8x128 .f32 := Host.absf main_v11
  let main_cst_2 : FVec F S_ .f32 := constant S_ .f32 0x7F800000#32
  let main_v13 : FVec F S1x4096x8x128 .f32 := broadcastInDim S1x4096x8x128 ![] bcast_S_S1x4096x8x128 main_cst_2
  let main_v14 : IVec S1x4096x8x128 1 := cmpf .olt main_v12 main_v13
  let main_c_3 : IVec S_ 1 := constantI S_ 1 1#1
  let main_v15 : IVec S_ 1 := (fun x v => Host.reduce IntOp.andi x v reducesTo_S1x4096x8x128_S_d0_1_2_3 h_S_) main_v14 main_c_3
  let main_v16 : IVec S_ 1 := andi main_v10 main_v15
  main_v16
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S4x1024x256 : Shape := ⟨3, ![4, 1024, 256]⟩
abbrev S1024x128 : Shape := ⟨2, ![1024, 128]⟩
abbrev S4 : Shape := ⟨1, ![4]⟩
abbrev S2 : Shape := ⟨1, ![2]⟩
abbrev S_ : Shape := ⟨0, ![]⟩
abbrev S1x1024x128 : Shape := ⟨3, ![1, 1024, 128]⟩
abbrev S1024 : Shape := ⟨1, ![1024]⟩
abbrev S1024x1 : Shape := ⟨2, ![1024, 1]⟩
abbrev S1 : Shape := ⟨1, ![1]⟩
abbrev S1x1024x256 : Shape := ⟨3, ![1, 1024, 256]⟩
abbrev S1024x256 : Shape := ⟨2, ![1024, 256]⟩
abbrev S1024x120 : Shape := ⟨2, ![1024, 120]⟩
abbrev S256x1024 : Shape := ⟨2, ![256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .f32⟩
  | .local _ .vmem, ⟨6, _⟩ => ⟨S4x1024x256, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x1024x256, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_57 : BitVec 32 := 1#32
  let v130 : BitVec 32 := Scalar.muli v3 c1_i32_57
  let v131 : BitVec 32 := Scalar.addi c0_i32_58 v130
  v131.toNat
def k0_dev4 (d0 : Dev nD) : Nat :=
  let c0_i32_85 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_84 : BitVec 32 := 1#32
  let v172 : BitVec 32 := Scalar.muli v4 c1_i32_84
  let v173 : BitVec 32 := Scalar.addi c0_i32_85 v172
  v173.toNat
def k0_dev5 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_111 : BitVec 32 := 1#32
  let v214 : BitVec 32 := Scalar.muli v3 c1_i32_111
  let v215 : BitVec 32 := Scalar.addi c0_i32_112 v214
  v215.toNat
def k0_dev6 (d0 : Dev nD) : Nat :=
  let c0_i32_141 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_140 : BitVec 32 := 1#32
  let v243 : BitVec 32 := Scalar.muli v4 c1_i32_140
  let v244 : BitVec 32 := Scalar.addi c0_i32_141 v243
  v244.toNat
def k0_dev7 (d0 : Dev nD) : Nat :=
  let c0_i32_168 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_167 : BitVec 32 := 1#32
  let v285 : BitVec 32 := Scalar.muli v4 c1_i32_167
  let v286 : BitVec 32 := Scalar.addi c0_i32_168 v285
  v286.toNat
def k0_dev8 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_196 : BitVec 32 := 1#32
  let v314 : BitVec 32 := Scalar.muli v3 c1_i32_196
  let v315 : BitVec 32 := Scalar.addi c0_i32_197 v314
  v315.toNat
def k0_dev9 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_207 : BitVec 32 := 1#32
  let v330 : BitVec 32 := Scalar.muli v3 c1_i32_207
  let v331 : BitVec 32 := Scalar.addi c0_i32_208 v330
  v331.toNat
def k0_dev10 (d0 : Dev nD) : Nat :=
  let c0_i32_233 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_232 : BitVec 32 := 1#32
  let v355 : BitVec 32 := Scalar.muli v4 c1_i32_232
  let v356 : BitVec 32 := Scalar.addi c0_i32_233 v355
  v356.toNat
def k0_dev11 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_261 : BitVec 32 := 1#32
  let v384 : BitVec 32 := Scalar.muli v3 c1_i32_261
  let v385 : BitVec 32 := Scalar.addi c0_i32_262 v384
  v385.toNat
def k0_dev12 (d0 : Dev nD) : Nat :=
  let c0_i32_280 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_279 : BitVec 32 := 1#32
  let v407 : BitVec 32 := Scalar.muli v4 c1_i32_279
  let v408 : BitVec 32 := Scalar.addi c0_i32_280 v407
  v408.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S1x8x1024x4096 : Shape := ⟨4, ![1, 8, 1024, 4096]⟩
abbrev S1x1x1024x4096 : Shape := ⟨4, ![1, 1, 1024, 4096]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 129
  | .vmem => 0
  | .smem => 0
  | _ => 0

abbrev hbmTy0_0 (i : Nat) : BufTy := match i % 128 with
  | 0 => ⟨S1x1024x1024, .bf16⟩
  | 1 => ⟨S1024x1024, .bf16⟩
  | 2 => ⟨S1x4096x8x128, .bf16⟩
  | 3 => ⟨S1x4096x8x128, .bf16⟩
  | 4 => ⟨S1024x1024, .bf16⟩
  | 5 => ⟨S1x1024x1024, .f32⟩
  | 6 => ⟨S1024x1024, .f32⟩
  | 7 => ⟨S1x4096x8x128, .f32⟩
  | 8 => ⟨S1x4096x8x128, .f32⟩
  | 9 => ⟨S1024x1024, .f32⟩
  | 10 => ⟨S1x1024x1024, .f32⟩
  | 11 => ⟨S1x1024x8x128, .f32⟩
  | 12 => ⟨S1024, .i32⟩
  | 13 => ⟨S_, .i32⟩
  | 14 => ⟨S_, .i32⟩
  | 15 => ⟨S1024, .i32⟩
  | 16 => ⟨S1024, .i32⟩
  | 17 => ⟨S1024, .i32⟩
  | 18 => ⟨S_, .i32⟩
  | 19 => ⟨S1024, .i32⟩
  | 20 => ⟨S1024, .i1⟩
  | 21 => ⟨S1024, .i32⟩
  | 22 => ⟨S1024, .i32⟩
  | 23 => ⟨S_, .i32⟩
  | 24 => ⟨S1024, .i32⟩
  | 25 => ⟨S1024, .i1⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S4096, .i32⟩
  | 33 => ⟨S_, .i32⟩
  | 34 => ⟨S_, .i32⟩
  | 35 => ⟨S4096, .i32⟩
  | 36 => ⟨S4096, .i32⟩
  | 37 => ⟨S4096, .i32⟩
  | 38 => ⟨S_, .i32⟩
  | 39 => ⟨S4096, .i32⟩
  | 40 => ⟨S4096, .i1⟩
  | 41 => ⟨S4096, .i32⟩
  | 42 => ⟨S4096, .i32⟩
  | 43 => ⟨S_, .i32⟩
  | 44 => ⟨S4096, .i32⟩
  | 45 => ⟨S4096, .i1⟩
  | 46 => ⟨S4096, .i1⟩
  | 47 => ⟨S_, .i32⟩
  | 48 => ⟨S4096, .i32⟩
  | 49 => ⟨S4096, .i32⟩
  | 50 => ⟨S4096, .i32⟩
  | 51 => ⟨S1x4096, .i32⟩
  | 52 => ⟨S1024x4096, .i32⟩
  | 53 => ⟨S1024x4096, .i32⟩
  | 54 => ⟨S1024x4096, .i1⟩
  | 55 => ⟨S_, .i32⟩
  | 56 => ⟨S1x4096, .i32⟩
  | 57 => ⟨S1x4096, .i1⟩
  | 58 => ⟨S1024x4096, .i1⟩
  | 59 => ⟨S1024x4096, .i1⟩
  | 60 => ⟨S1024x4096, .i32⟩
  | 61 => ⟨S1024x4096, .i32⟩
  | 62 => ⟨S1024x4096, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S1024x4096, .i32⟩
  | 70 => ⟨S1024x4096, .i32⟩
  | 71 => ⟨S_, .i32⟩
  | 72 => ⟨S1024x4096, .i32⟩
  | 73 => ⟨S1024x4096, .i1⟩
  | 74 => ⟨S_, .i32⟩
  | 75 => ⟨S1024x4096, .i32⟩
  | 76 => ⟨S1024x4096, .i1⟩
  | 77 => ⟨S_, .i32⟩
  | 78 => ⟨S_, .i1⟩
  | 79 => ⟨S1024x4096, .i1⟩
  | 80 => ⟨S1024x4096, .i1⟩
  | 81 => ⟨S1024x4096, .i1⟩
  | 82 => ⟨S1024x4096, .i32⟩
  | 83 => ⟨S1024x4096, .i32⟩
  | 84 => ⟨S1024x4096, .i32⟩
  | 85 => ⟨S_, .i32⟩
  | 86 => ⟨S1024x4096, .i32⟩
  | 87 => ⟨S1024x4096, .i1⟩
  | 88 => ⟨S1024x4096, .i1⟩
  | 89 => ⟨S1x8x1024x4096, .f32⟩
  | 90 => ⟨S_, .f32⟩
  | 91 => ⟨S_, .f32⟩
  | 92 => ⟨S1x8x1024x4096, .f32⟩
  | 93 => ⟨S1x8x1024x4096, .f32⟩
  | 94 => ⟨S1x1x1024x4096, .i1⟩
  | 95 => ⟨S_, .f32⟩
  | 96 => ⟨S_, .f32⟩
  | 97 => ⟨S1x8x1024x4096, .i1⟩
  | 98 => ⟨S1x8x1024x4096, .f32⟩
  | 99 => ⟨S1x8x1024x4096, .f32⟩
  | 100 => ⟨S_, .f32⟩
  | 101 => ⟨S1x8x1024, .f32⟩
  | 102 => ⟨S1x8x1024x1, .f32⟩
  | 103 => ⟨S1x8x1024x4096, .f32⟩
  | 104 => ⟨S1x8x1024x4096, .f32⟩
  | 105 => ⟨S1x8x1024x4096, .f32⟩
  | 106 => ⟨S_, .i1⟩
  | 107 => ⟨S1024, .i1⟩
  | 108 => ⟨S1x1x1024x1, .i1⟩
  | 109 => ⟨S_, .f32⟩
  | 110 => ⟨S1x8x1024, .f32⟩
  | 111 => ⟨S1x8x1024x1, .f32⟩
  | 112 => ⟨S_, .f32⟩
  | 113 => ⟨S_, .f32⟩
  | 114 => ⟨S1x8x1024x1, .i1⟩
  | 115 => ⟨S1x8x1024x1, .f32⟩
  | 116 => ⟨S1x8x1024x1, .f32⟩
  | 117 => ⟨S1x8x1024x4096, .f32⟩
  | 118 => ⟨S1x8x1024x4096, .f32⟩
  | 119 => ⟨S1x1x1024x1, .i1⟩
  | 120 => ⟨S_, .f32⟩
  | 121 => ⟨S_, .f32⟩
  | 122 => ⟨S1x8x1024x4096, .i1⟩
  | 123 => ⟨S1x8x1024x4096, .f32⟩
  | 124 => ⟨S1x8x1024x4096, .f32⟩
  | 125 => ⟨S1x8x128x1024, .f32⟩
  | 126 => ⟨S1x1024x8x128, .f32⟩
  | 127 => ⟨S1x1024x1024, .f32⟩
  | _ => ⟨S1x1024x1024, .bf16⟩

abbrev hbmTy0_1 (i : Nat) : BufTy := match i % 128 with
  | 0 => ⟨S1x1024x1024, .f32⟩
  | _ => ⟨S1x1024x1024, .bf16⟩

abbrev hbmTy (i : Nat) : BufTy := match i / 128 with
  | 0 => hbmTy0_0 i
  | 1 => hbmTy0_1 i
  | _ => ⟨S1x1024x1024, .bf16⟩

abbrev bufTy : (tb : Table) → Fin (tcTables nBuf tb) → BufTy
  | .hbm, ⟨i, _⟩ => hbmTy i
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_cst_4 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v32 : Ref sig .tc := ⟨.hbm, 99, rfl⟩
abbrev main_cst_5 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_c_6 : Ref sig .tc := ⟨.hbm, 106, rfl⟩
abbrev main_v38 : Ref sig .tc := ⟨.hbm, 107, rfl⟩
abbrev main_v39 : Ref sig .tc := ⟨.hbm, 108, rfl⟩
abbrev main_cst_7 : Ref sig .tc := ⟨.hbm, 109, rfl⟩
abbrev main_v40 : Ref sig .tc := ⟨.hbm, 110, rfl⟩
abbrev main_v41 : Ref sig .tc := ⟨.hbm, 111, rfl⟩
abbrev main_cst_8 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_cst_9 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩

abbrev nD : Nat := 1
abbrev τ : Topo := Topo.v7x

variable {F : FTy → Type} [FloatOps F]
-- ==== Proof.Cat.lean ====
/-
# Two halves of a slot

The contents of a `1×1024×256` slot whose columns below 128 come from one `1×1024×128` array and the others from a
second: what two stores, one per half, leave whatever was there before.
-/
module

public import Idealize.ShloMosaic.Lib.VecWindow

@[expose] public section

namespace Cert.Cat

open Idealize.ShloMosaic

/-- The column of a slot within its half. -/
def col (j : (⟨3, ![1, 1024, 256]⟩ : Shape).Idx) : (⟨3, ![1, 1024, 128]⟩ : Shape).Idx := fun
  | 0 => j 0
  | 1 => j 1
  | 2 => ⟨(j 2).val % 128, Nat.mod_lt _ (by decide)⟩

/-- The slot made of two halves. -/
def cat {α : Type} (w0 w1 : (⟨3, ![1, 1024, 128]⟩ : Shape).Idx → α) : (⟨3, ![1, 1024, 256]⟩ : Shape).Idx → α :=
  fun j => if (j 2).val < 128 then w0 (col j) else w1 (col j)

/-- Storing both halves leaves the slot made of them. -/
theorem put_put {α : Type} (X : (⟨3, ![1, 1024, 256]⟩ : Shape).Idx → α) (w0 w1 : (⟨3, ![1, 1024, 128]⟩ : Shape).Idx → α)
    (o0 o1 : Fin 3 → ℕ) (h0 : o0 = ![0, 0, 0]) (h1 : o1 = ![0, 0, 128]) :
    VecWindow.put (s := ⟨3, ![1, 1024, 256]⟩) (VecWindow.put (s := ⟨3, ![1, 1024, 256]⟩) X o0 ![1, 1024, 128] w0) o1 ![1, 1024, 128] w1 = cat w0 w1 := by
  subst h0 h1
  funext j
  have b0 : (j 0).val < 1 := (j 0).isLt
  have b1 : (j 1).val < 1024 := (j 1).isLt
  have b2 : (j 2).val < 256 := (j 2).isLt
  unfold VecWindow.put cat
  by_cases h : (j 2).val < 128
  · rw [if_pos h, dif_neg (fun hh => by have := (hh 2).1; change 128 ≤ (j 2).val at this; omega),
      dif_pos (fun a => by
        match a with
        | 0 => exact ⟨Nat.zero_le _, by change (j 0).val < 0 + 1; omega⟩
        | 1 => exact ⟨Nat.zero_le _, by change (j 1).val < 0 + 1024; omega⟩
        | 2 => exact ⟨Nat.zero_le _, by change (j 2).val < 0 + 128; omega⟩)]
    refine congrArg w0 (funext fun a => Fin.ext ?_)
    match a with
    | 0 => rfl
    | 1 => rfl
    | 2 => exact (Nat.mod_eq_of_lt h).symm
  · rw [if_neg h, dif_pos (fun a => by
        match a with
        | 0 => exact ⟨Nat.zero_le _, by change (j 0).val < 0 + 1; omega⟩
        | 1 => exact ⟨Nat.zero_le _, by change (j 1).val < 0 + 1024; omega⟩
        | 2 => exact ⟨by change 128 ≤ (j 2).val; omega, by change (j 2).val < 128 + 128; omega⟩)]
    refine congrArg w1 (funext fun a => Fin.ext ?_)
    match a with
    | 0 => rfl
    | 1 => rfl
    | 2 =>
      change (j 2).val - 128 = (j 2).val % 128
      omega

end Cert.Cat
-- ==== Proof.Owned.lean ====
/-
# Loads, stores and transfers at the level of owned contents

A core's share of a memref at known contents is the library's `owns c m q X`. Here are the steps of a kernel body stated
with it: a load of a rectangle of an owned memref, a load and a store through a memref of which only one rectangle is
owned, a store into a part of that rectangle, and what a transfer leaves in its destination.
-/
module

public import Idealize.ShloMosaic.Lib.MemrefSat
public import Idealize.ShloMosaic.Lib.VecWindow
public import Idealize.ShloMosaic.Lib.ViewIndex
public import Idealize.ShloMosaic.Lib.Tactic

@[expose] public section

noncomputable section

namespace Cert.Owned

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V) {Γ : PendingWaitsCtx sig Ix} (E : Set Name)
variable {α : Type} {Q : α → sProp (MT nD τ sig Ix Val Name U Lvl)} {cs : CoreSpace} {s : Shape} {e : EltTy}

/-- Owning the elements a memref places, at some contents. -/
def ownsAny (c : Thread nD τ) {sp : Space} {sh : Shape} {e : EltTy} (m : Memref sig c.2.kind sp sh e) : sProp 𝕄 :=
  iprop(∃ X, owns c m fullShare X)

instance ownsAny_storable (c : Thread nD τ) {sp : Space} {sh : Shape} {e : EltTy} (m : Memref sig c.2.kind sp sh e) :
    BI.Storable (upEmb : UEmb _ 𝕄) (ownsAny c m) := by unfold ownsAny; infer_instance

/-- What is owned at contents `X` is owned at some contents. -/
theorem ownsAny_intro {sp : Space} (m : Memref sig c.2.kind sp s e) (X : s.Idx → Val e) : (owns c m fullShare X : sProp 𝕄) ⊢ ownsAny c m := by
  unfold ownsAny; iintro H; iexists X; iexact H

/-- A load of a rectangle of an owned memref returns the contents at the rectangle's elements. -/
theorem load_sub {m : Memref sig c.2.kind cs s e} {r : Rect s} {hl : m.view.LoadsAt r} {q : PosShare TreeShare} {X : s.Idx → Val e}
    {k : (r.shape.Idx → Val e) → Prog (TpuEff nD τ sig Val Λ c.2) α} :
    (owns c m q X : sProp 𝕄)
      ⊢ iprop((owns c m q X -∗ wp frame (wpE' defs 𝒱 c bd Γ) E (k (fun j => X (r.emb j))) Q)
        -∗ wp frame (wpE' defs 𝒱 c bd Γ) E (.op (.load m r hl) k) Q) := by
  unfold owns
  iintro ⟨%f, %hf, H⟩ Hk
  subst hf
  iapply (wp_load 𝒱 c bd E (m := m) (r := r) (hl := hl) (S := m.view.set) (f := f) (View.setOn_subset_set _ _)) $$ H
  iintro H
  iapply Hk
  iexists f; isplitr; · ipureintro; rfl
  iexact H

/-- A load of the whole of an owned memref returns its contents. -/
theorem load_full {m : Memref sig c.2.kind cs s e} {off : Fin s.rank → ℕ} {inb : ∀ a, off a + s.size a ≤ s.size a}
    {hl : m.view.LoadsAt (Rect.unit off s.size inb)} {q : PosShare TreeShare} {X : s.Idx → Val e}
    {k : (s.Idx → Val e) → Prog (TpuEff nD τ sig Val Λ c.2) α} :
    (owns c m q X : sProp 𝕄)
      ⊢ iprop((owns c m q X -∗ wp frame (wpE' defs 𝒱 c bd Γ) E (k X) Q)
        -∗ wp frame (wpE' defs 𝒱 c bd Γ) E (.op (.load m (Rect.unit off s.size inb) hl) k) Q) := by
  have h : (fun j => X ((Rect.unit off s.size inb).emb j)) = X := funext fun z => congrArg X (Rect.emb_unit_full inb z)
  have := load_sub (defs := defs) 𝒱 c bd (Γ := Γ) E (Q := Q) (m := m) (r := Rect.unit off s.size inb) (hl := hl) (q := q) (X := X) (k := k)
  rw [h] at this; exact this

/-- A load, through a memref, of the rectangle of it that is owned. -/
theorem load_slice {m : Memref sig c.2.kind cs s e} {r : Rect s} {hr : ∀ a, r.stride a = 1} {hl : m.view.LoadsAt r} {q : PosShare TreeShare}
    {X : r.shape.Idx → Val e} {k : (r.shape.Idx → Val e) → Prog (TpuEff nD τ sig Val Λ c.2) α} :
    (owns c (m.slice r hr) q X : sProp 𝕄)
      ⊢ iprop((owns c (m.slice r hr) q X -∗ wp frame (wpE' defs 𝒱 c bd Γ) E (k X) Q)
        -∗ wp frame (wpE' defs 𝒱 c bd Γ) E (.op (.load m r hl) k) Q) := by
  unfold owns
  iintro ⟨%f, %hf, H⟩ Hk
  subst hf
  iapply (wp_load_rect 𝒱 c bd E (m := m) (r := r) (hl := hl) (S := (m.access r).set) (f := f) subset_rfl) $$ H
  iintro H
  iapply Hk
  iexists f; isplitr; · ipureintro; rfl
  iexact H

/-- A load, through a memref, of a part of the rectangle of it that is owned. -/
theorem load_part_at {m : Memref sig c.2.kind cs s e} {R r : Rect s} {hR : ∀ a, R.stride a = 1} {hl : m.view.LoadsAt r} {q : PosShare TreeShare}
    {X : R.shape.Idx → Val e} {k : (r.shape.Idx → Val e) → Prog (TpuEff nD τ sig Val Λ c.2) α} (h : r.set ⊆ R.set) :
    (owns c (m.slice R hR) q X : sProp 𝕄)
      ⊢ iprop((∀ v, owns c (m.slice R hR) q X -∗ wp frame (wpE' defs 𝒱 c bd Γ) E (k v) Q)
        -∗ wp frame (wpE' defs 𝒱 c bd Γ) E (.op (.load m r hl) k) Q) := by
  unfold owns
  iintro ⟨%f, %hf, H⟩ Hk
  subst hf
  iapply (wp_load_rect 𝒱 c bd E (m := m) (r := r) (hl := hl) (S := (m.slice R hR).view.set) (f := f)
    (by
      show (m.view.slice r).set ⊆ (m.view.slice R).set
      rw [View.set_slice, View.set_slice]; exact Finset.map_subset_map.mpr h)) $$ H
  iintro H
  iapply Hk
  iexists f; isplitr; · ipureintro; rfl
  iexact H

/-- The same by a program that goes on the same way whatever it reads there. -/
theorem load_part {m : Memref sig c.2.kind cs s e} {R r : Rect s} {hR : ∀ a, R.stride a = 1} {hl : m.view.LoadsAt r} {q : PosShare TreeShare}
    {X : R.shape.Idx → Val e} {k : Prog (TpuEff nD τ sig Val Λ c.2) α} (h : r.set ⊆ R.set) :
    (owns c (m.slice R hR) q X : sProp 𝕄)
      ⊢ iprop((owns c (m.slice R hR) q X -∗ wp frame (wpE' defs 𝒱 c bd Γ) E k Q)
        -∗ wp frame (wpE' defs 𝒱 c bd Γ) E (.op (.load m r hl) fun _ => k) Q) := by
  iintro H Hk
  iapply (load_part_at 𝒱 c bd E h) $$ H
  iintro %v H
  iapply Hk; iexact H

/-- A load of a rectangle of a memref owned at some contents, by a program that goes on the same way whatever it reads. -/
theorem load_any {m : Memref sig c.2.kind cs s e} {r : Rect s} {hl : m.view.LoadsAt r}
    {k : Prog (TpuEff nD τ sig Val Λ c.2) α} :
    (ownsAny c m : sProp 𝕄)
      ⊢ iprop((ownsAny c m -∗ wp frame (wpE' defs 𝒱 c bd Γ) E k Q)
        -∗ wp frame (wpE' defs 𝒱 c bd Γ) E (.op (.load m r hl) fun _ => k) Q) := by
  unfold ownsAny
  iintro ⟨%X, H⟩ Hk
  iapply (load_sub 𝒱 c bd E) $$ H
  iintro H
  iapply Hk
  iexists X; iexact H

/-- A load of the owned rectangle at some contents, by a program that goes on the same way whatever it reads. -/
theorem load_slice_any {m : Memref sig c.2.kind cs s e} {r : Rect s} {hr : ∀ a, r.stride a = 1} {hl : m.view.LoadsAt r}
    {k : Prog (TpuEff nD τ sig Val Λ c.2) α} :
    (ownsAny c (m.slice r hr) : sProp 𝕄)
      ⊢ iprop((ownsAny c (m.slice r hr) -∗ wp frame (wpE' defs 𝒱 c bd Γ) E k Q)
        -∗ wp frame (wpE' defs 𝒱 c bd Γ) E (.op (.load m r hl) fun _ => k) Q) := by
  unfold ownsAny
  iintro ⟨%X, H⟩ Hk
  iapply (load_slice 𝒱 c bd E) $$ H
  iintro H
  iapply Hk
  iexists X; iexact H

/-- A store of the whole owned rectangle leaves the stored contents there. -/
theorem store_slice {m : Memref sig c.2.kind cs s e} {r : Rect s} {hr : ∀ a, r.stride a = 1} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} :
    (ownsAny c (m.slice r hr) : sProp 𝕄)
      ⊢ iprop((owns c (m.slice r hr) fullShare w -∗ wp frame (wpE' defs 𝒱 c bd Γ) E (k ⟨⟩) Q)
        -∗ wp frame (wpE' defs 𝒱 c bd Γ) E (.op (.store m r w Finset.univ hx hm) k) Q) := by
  unfold ownsAny owns
  iintro ⟨%X, %f, -, H⟩ Hk
  iapply (wp_store 𝒱 c bd E (m := m) (r := r) (w := w) (Mk := Finset.univ) (hx := hx) (hm := hm) (S := (m.access r).set) (f := f)
    (by rw [View.setOn_univ])) $$ H
  iintro H
  iapply Hk
  iexists ((m.access r).write Val f w Finset.univ); isplitr
  · ipureintro; exact View.read_write_univ _ _
  iexact H

/-- A store of the whole of an owned memref leaves the stored contents. -/
theorem store_full {m : Memref sig c.2.kind cs s e} {off : Fin s.rank → ℕ} {inb : ∀ a, off a + s.size a ≤ s.size a} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} :
    (ownsAny c m : sProp 𝕄)
      ⊢ iprop((owns c m fullShare w -∗ wp frame (wpE' defs 𝒱 c bd Γ) E (k ⟨⟩) Q)
        -∗ wp frame (wpE' defs 𝒱 c bd Γ) E (.op (.store m (Rect.unit off s.size inb) w Finset.univ hx hm) k) Q) := by
  unfold ownsAny owns
  iintro ⟨%X, %f, -, H⟩ Hk
  iapply (wp_store 𝒱 c bd E (m := m) (r := Rect.unit off s.size inb) (w := w) (Mk := Finset.univ) (hx := hx) (hm := hm) (S := m.view.set) (f := f)
    (by rw [View.setOn_univ]; show (m.view.slice _).set ⊆ _; rw [View.set_slice]; exact View.setOn_subset_set _ _)) $$ H
  iintro H
  iapply Hk
  iexists ((m.access (Rect.unit off s.size inb)).write Val f w Finset.univ); isplitr
  · ipureintro
    exact m.view.read_writes_full f inb w []
  iexact H

/-- A window's contents after a put inside it: the put at the offsets within the window. -/
theorem window_put {β : Type} (x : s.Idx → β) (off size Off Size : Fin s.rank → ℕ) (inb : ∀ a, Off a + Size a ≤ s.size a)
    (w : ((a : Fin s.rank) → Fin (size a)) → β) (h : ∀ a, Off a ≤ off a) :
    VecWindow.window (VecWindow.put x off size w) Off Size inb
      = VecWindow.put (s := ⟨s.rank, Size⟩) (VecWindow.window x Off Size inb) (fun a => off a - Off a) size w := by
  funext y
  have e : ∀ a, ((Rect.unit Off Size inb).emb y a).val = Off a + 1 * (y a).val := fun _ => rfl
  unfold VecWindow.window VecWindow.put
  by_cases hc : ∀ a, off a ≤ ((Rect.unit Off Size inb).emb y a).val ∧ ((Rect.unit Off Size inb).emb y a).val < off a + size a
  · have hc' : ∀ a, off a - Off a ≤ (y a).val ∧ (y a).val < off a - Off a + size a := fun a => by
      have := hc a; have := e a; have := h a; omega
    rw [dif_pos hc, dif_pos hc']
    exact congrArg w (funext fun a => Fin.ext (by
      show ((Rect.unit Off Size inb).emb y a).val - off a = (y a).val - (off a - Off a)
      have := e a; have := h a; have := hc a; omega))
  · have hc' : ¬ ∀ a, off a - Off a ≤ (y a).val ∧ (y a).val < off a - Off a + size a := fun hh => hc fun a => by
      have := hh a; have := e a; have := h a; omega
    rw [dif_neg hc, dif_neg hc']

/-- A store, through a memref, into a part of the rectangle of it that is owned, puts the stored contents at the part's
    offsets within the rectangle. -/
theorem store_part {m : Memref sig c.2.kind cs s e} {Off Size off size : Fin s.rank → ℕ} {inbR : ∀ a, Off a + Size a ≤ s.size a}
    {inb : ∀ a, off a + size a ≤ s.size a} {hR : ∀ a, (Rect.unit Off Size inbR).stride a = 1} {w : (Rect.unit off size inb).shape.Idx → Val e}
    {hx : (m.access (Rect.unit off size inb)).Stores Finset.univ}
    {hm : (Finset.univ : Finset (Rect.unit off size inb).shape.Idx) = Finset.univ ∨ ∀ a, (Rect.unit off size inb).stride a = 1}
    {X : (Rect.unit Off Size inbR).shape.Idx → Val e}
    {k : PUnit → Prog (TpuEff nD τ sig Val Λ c.2) α} (h : (Rect.unit off size inb).set ⊆ (Rect.unit Off Size inbR).set) (h' : ∀ a, Off a ≤ off a) :
    (owns c (m.slice (Rect.unit Off Size inbR) hR) fullShare X : sProp 𝕄)
      ⊢ iprop((owns c (m.slice (Rect.unit Off Size inbR) hR) fullShare (VecWindow.put (s := ⟨s.rank, Size⟩) X (fun a => off a - Off a) size w)
            -∗ wp frame (wpE' defs 𝒱 c bd Γ) E (k ⟨⟩) Q)
        -∗ wp frame (wpE' defs 𝒱 c bd Γ) E (.op (.store m (Rect.unit off size inb) w Finset.univ hx hm) k) Q) := by
  unfold owns
  iintro ⟨%f, %hf, H⟩ Hk
  subst hf
  iapply (wp_store 𝒱 c bd E (m := m) (r := Rect.unit off size inb) (w := w) (Mk := Finset.univ) (hx := hx) (hm := hm)
    (S := (m.slice (Rect.unit Off Size inbR) hR).view.set) (f := f)
    (by
      rw [View.setOn_univ]
      show (m.view.slice (Rect.unit off size inb)).set ⊆ (m.view.slice (Rect.unit Off Size inbR)).set
      rw [View.set_slice, View.set_slice]; exact Finset.map_subset_map.mpr h)) $$ H
  iintro H
  iapply Hk
  iexists ((m.access (Rect.unit off size inb)).write Val f w Finset.univ); isplitr
  · ipureintro
    have h1 := m.view.read_writes_cons_put f inb w [] rfl
    have h2 := window_put (m.view.read Val f) off size Off Size inbR w h'
    exact (congrArg (fun x => VecWindow.window x Off Size inbR) h1).trans h2
  iexact H

/-- What a transfer between two equally shaped re-indexed memrefs leaves in its destination: the source's contents. -/
theorem landed_reshape {κ κ' : Kind} {sp sp' : Space} {s' : Shape} (v : View sig κ sp s e) (u : View sig κ' sp' s e) (h : s'.numel = s.numel)
    (f : v.ty.Contents Val) (g : u.ty.Contents Val) :
    v.read Val ((v.reshape s' h).write Val f ((u.reshape s' h).read Val g) Finset.univ) = u.read Val g := by
  funext y
  have hy : y = Shape.reshapeEquiv h ((Shape.reshapeEquiv h).symm y) := by simp
  rw [hy, View.read_write_reshape]
  rfl

end Cert.Owned

end
-- ==== Proof.KernelIdeal.Contents.lean ====
/-
# What the kernel computes, buffer by buffer

The contents of every buffer the kernel stores or sends, as a function of the five blocks each device holds, in the
program's own operations: per head the context of the local key block and its row sums, per chunk of two heads the
local context `cs`, the sum over two devices `sm`, the row sums `ls` and `lt`, and the result `out`.
-/
module

public import proofs.«01_k».proof.Proof.Gen.KernelIdeal.Skeleton
public import proofs.«01_k».proof.Proof.Cat

@[expose] public section

noncomputable section

namespace Cert.KernelIdeal.Run

open Cert.KernelIdeal Cert.KernelIdeal.Gen
open Idealize.ShloMosaic Cert.Cat

variable {F : FTy → Type} [FloatOps F] [Named F]

/-- The two partners of a device: the neighbour in its pair, and the device across. -/
def p1 : Dev nD → Dev nD := fun | 0 => 1 | 1 => 0 | 2 => 3 | 3 => 2
def p2 : Dev nD → Dev nD := fun | 0 => 3 | 1 => 2 | 2 => 1 | 3 => 0

theorem p1_p1 : ∀ c, p1 (p1 c) = c := by decide
theorem p2_p2 : ∀ c, p2 (p2 c) = c := by decide

/-- The five blocks a device holds: the activations, the query weights, its keys and values, the output weights. -/
structure Inp (F : FTy → Type) where
  x : Vec F S1x1024x1024 .bf16
  wq : Vec F S1024x1024 .bf16
  k : Vec F S1024x1024 .bf16
  v : Vec F S1024x1024 .bf16
  wo : Vec F S1024x1024 .bf16

/-- The 128 columns of a head. -/
abbrev cols (X : Vec F S1024x1024 .bf16) (o : Nat) (h : ∀ a, (![0, o] : Fin S1024x1024.rank → Nat) a + S1024x128.size a ≤ S1024x1024.size a) :
    Vec F S1024x128 .bf16 := fun j => X ((Rect.unit (s := S1024x1024) ![0, o] S1024x128.size h).emb j)

section Device
variable (i : Inp F) (c : Dev nD)

/-- The projected queries. -/
def q : FVec F S1024x1024 .bf16 := k0_pay1 i.x i.wq

/-- The mask's three ingredients, and the additive bias made of them. -/
def myw : BitVec 32 := Scalar.remsi (Scalar.divsi (Dev.word c) 1#32) 4#32
def m74 : IVec S1024x1024 1 := k0_pay6 (myw c) (iota .tc S1024x1024 32 [0] iota_S1024x1024_d0_w32) 64#32 k0_pay2 k0_pay3
def m79 : IVec S1024x1024 32 := k0_pay7 (myw c) (iota .tc S1024x1024 32 [0] iota_S1024x1024_d0_w32) 64#32 k0_pay2 k0_pay3
def w77 : BitVec 32 := Scalar.select (Scalar.cmpi .eq 3#32 0#32) 1#32 3#32
def bias : FVec F S1024x1024 .f32 := k0_pay8 (m74 c) w77 (m79 c) 0#32

abbrev kc (o : Nat) (h : ∀ a, (![0, o] : Fin S1024x1024.rank → Nat) a + S1024x128.size a ≤ S1024x1024.size a) : Vec F S1024x128 .bf16 := cols i.k o h
abbrev vc (o : Nat) (h : ∀ a, (![0, o] : Fin S1024x1024.rank → Nat) a + S1024x128.size a ≤ S1024x1024.size a) : Vec F S1024x128 .bf16 := cols i.v o h

/-- The local context of each head. -/
def h0 : FVec F S1x1024x128 .bf16 := k0_pay10 (q i) (m74 c) w77 (m79 c) 0#32 (kc i 0 inb_S1024x1024_S1024x128_0_0) (vc i 0 inb_S1024x1024_S1024x128_0_0)
def h1 : FVec F S1x1024x128 .bf16 := k0_pay14 (k0_pay13 (q i) (m74 c) w77 (m79 c) 0#32 (kc i 128 inb_S1024x1024_S1024x128_0_128)) (vc i 128 inb_S1024x1024_S1024x128_0_128)
def h2 : FVec F S1x1024x128 .bf16 := k0_pay18 (k0_pay17 (q i) (bias c) (kc i 256 inb_S1024x1024_S1024x128_0_256) (vc i 256 inb_S1024x1024_S1024x128_0_256))
def h3 : FVec F S1x1024x128 .bf16 := k0_pay21 (q i) (bias c) (kc i 384 inb_S1024x1024_S1024x128_0_384) (vc i 384 inb_S1024x1024_S1024x128_0_384)
def h4 : FVec F S1x1024x128 .bf16 := k0_pay25 (bias c) (k0_pay23 (q i)) (kc i 512 inb_S1024x1024_S1024x128_0_512) (vc i 512 inb_S1024x1024_S1024x128_0_512)
def h5 : FVec F S1x1024x128 .bf16 := k0_pay28 (q i) (bias c) (kc i 640 inb_S1024x1024_S1024x128_0_640) (vc i 640 inb_S1024x1024_S1024x128_0_640)
def h6 : FVec F S1x1024x128 .bf16 := k0_pay32 (q i) (bias c) (kc i 768 inb_S1024x1024_S1024x128_0_768) (vc i 768 inb_S1024x1024_S1024x128_0_768)
def h7 : FVec F S1x1024x128 .bf16 := k0_pay36 (k0_pay35 (q i) (bias c) (kc i 896 inb_S1024x1024_S1024x128_0_896) (vc i 896 inb_S1024x1024_S1024x128_0_896))

/-- The local row sums of each head. -/
def r0 : FVec F S1024x1 .f32 := k0_pay11 (q i) (m74 c) w77 (m79 c) 0#32 (kc i 0 inb_S1024x1024_S1024x128_0_0)
def r1 : FVec F S1024x1 .f32 := k0_pay15 (k0_pay12 (q i) (m74 c) w77 (m79 c) 0#32 (kc i 128 inb_S1024x1024_S1024x128_0_128))
def r2 : FVec F S1024x1 .f32 := k0_pay19 (k0_pay16 (q i) (bias c) (kc i 256 inb_S1024x1024_S1024x128_0_256))
def r3 : FVec F S1024x1 .f32 := k0_pay22 (q i) (bias c) (kc i 384 inb_S1024x1024_S1024x128_0_384)
def r4 : FVec F S1024x1 .f32 := k0_pay26 (bias c) (k0_pay23 (q i)) (kc i 512 inb_S1024x1024_S1024x128_0_512)
def r5 : FVec F S1024x1 .f32 := k0_pay29 (q i) (bias c) (kc i 640 inb_S1024x1024_S1024x128_0_640)
def r6 : FVec F S1024x1 .f32 := k0_pay33 (q i) (bias c) (kc i 768 inb_S1024x1024_S1024x128_0_768)
def r7 : FVec F S1024x1 .f32 := k0_pay37 (k0_pay34 (q i) (bias c) (kc i 896 inb_S1024x1024_S1024x128_0_896))

end Device

section Mesh
variable (I : Dev nD → Inp F) (c : Dev nD)

/-- The local context of each chunk of two heads. -/
def cs0 : Vec F S1x1024x256 .bf16 := cat (h0 (I c) c) (h1 (I c) c)
def cs1 : Vec F S1x1024x256 .bf16 := cat (h2 (I c) c) (h3 (I c) c)
def cs2 : Vec F S1x1024x256 .bf16 := cat (h4 (I c) c) (h5 (I c) c)
def cs3 : Vec F S1x1024x256 .bf16 := cat (h6 (I c) c) (h7 (I c) c)

/-- The chunks summed with the stage-1 partner's. -/
def sm0 : Vec F S1x1024x256 .bf16 := k0_pay30 (cs0 I c) (cs0 I (p1 c))
def sm1 : Vec F S1x1024x256 .bf16 := k0_pay39 (k0_pay38 (cs1 I c) (cs1 I (p2 c)))
def sm2 : Vec F S1x1024x256 .bf16 := k0_pay41 (cs2 I c) (cs2 I (p1 c))
def sm3 : Vec F S1x1024x256 .bf16 := k0_pay42 (cs3 I c) (cs3 I (p2 c))

/-- The row sums of all heads, local and summed with the first partner's. -/
def ls : Vec F S1024x128 .bf16 :=
  k0_pay40 (r0 (I c) c) (r1 (I c) c) (r2 (I c) c) (r3 (I c) c) (r4 (I c) c) (r5 (I c) c) (r6 (I c) c) (r7 (I c) c)
def lt : Vec F S1024x128 .bf16 := k0_pay43 (ls I c) (ls I (p1 c))

/-- The total row sums, and the output weights as the products read them. -/
def tot : FVec F S1024x128 .f32 := k0_pay44 (lt I c) (lt I (p2 c))
def wo : FVec F S1024x1024 .bf16 := k0_pay45 (I c).wo

/-- The result accumulated over the chunks. -/
def acc0 : FVec F S1024x1024 .f32 := k0_pay46 (tot I c) (wo I c) (sm0 I c) (sm0 I (p2 c))
def acc1 : FVec F S1024x1024 .f32 := k0_pay48 (tot I c) (wo I c) (acc0 I c) (k0_pay47 (sm1 I c)) (sm1 I (p1 c))
def out : Vec F S1x1024x1024 .f32 :=
  k0_pay52 (tot I c) (wo I c) (acc1 I c) (k0_pay50 (tot I c) (sm2 I c) (sm2 I (p2 c))) (k0_pay51 (tot I c) (sm2 I c) (sm2 I (p2 c)))
    (sm3 I c) (sm3 I (p1 c))

end Mesh

end Cert.KernelIdeal.Run

end
-- ==== Proof.KernelIdeal.Protocol.lean ====
/-
# The protocol of the exchange

Every device sends ten buffers, five to each of its two partners: its four context chunks (stage 1), their four sums
over two devices (stage 2), and its row sums in two stages. The transfers are the *links* `0 … 9`: links `0 … 3` carry
stage 1, `4 … 7` stage 2, `8` and `9` the row sums; `peer i` is the device at the other end. Before the first send each
device tells both partners, on the runtime's barrier semaphore, that it has arrived: that signal hands the partner the
buffers its five links write. A transfer's receive semaphore hands the destination's owner the landed contents, its
send semaphore hands the source back.
-/
module

public import proofs.«01_k».proof.Proof.KernelIdeal.Contents
public import proofs.«01_k».proof.Proof.Owned
public import Idealize.ShloMosaic.Lib.Pipeline.Launch
public import Idealize.ShloMosaic.Lib.Pipeline.Kit

@[expose] public section

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's copy of the rounds and the exchange's, whose duties are named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers, slots, semaphores -/

abbrev B0 : Memref sig .tc .vmem S4x1024x256 .bf16 := Memref.whole cc0_scratch0
abbrev B1 : Memref sig .tc .vmem S4x1024x256 .bf16 := Memref.whole cc0_scratch1
abbrev B2 : Memref sig .tc .vmem S4x1024x256 .bf16 := Memref.whole cc0_scratch2
abbrev B3 : Memref sig .tc .vmem S4x1024x256 .bf16 := Memref.whole cc0_scratch3
abbrev L0 : Memref sig .tc .vmem S1024x128 .bf16 := Memref.whole cc0_scratch4
abbrev L1 : Memref sig .tc .vmem S1024x128 .bf16 := Memref.whole cc0_scratch5
abbrev L2 : Memref sig .tc .vmem S1024x128 .bf16 := Memref.whole cc0_scratch6
abbrev L3 : Memref sig .tc .vmem S1024x128 .bf16 := Memref.whole cc0_scratch7

/-- The four slots of a chunk buffer. -/
abbrev R0 : Rect S4x1024x256 := Rect.unit (s := S4x1024x256) ![0, 0, 0] S1x1024x256.size inb_S4x1024x256_S1x1024x256_0_0_0
abbrev R1 : Rect S4x1024x256 := Rect.unit (s := S4x1024x256) ![1, 0, 0] S1x1024x256.size inb_S4x1024x256_S1x1024x256_1_0_0
abbrev R2 : Rect S4x1024x256 := Rect.unit (s := S4x1024x256) ![2, 0, 0] S1x1024x256.size inb_S4x1024x256_S1x1024x256_2_0_0
abbrev R3 : Rect S4x1024x256 := Rect.unit (s := S4x1024x256) ![3, 0, 0] S1x1024x256.size inb_S4x1024x256_S1x1024x256_3_0_0

abbrev barS : Sem sig := (SemArray.scalar (sig.barrier 0 rfl) : Sems sig S_).sem

/-- A cell of the exchange: the barrier, a link's send semaphore, a link's receive semaphore. -/
abbrev Ck : Type := Option (Fin 10 ⊕ Fin 10)

def sendS : Fin 10 → DmaSem sig := fun
  | 0 => 6 | 1 => 7 | 2 => 8 | 3 => 9 | 4 => 14 | 5 => 15 | 6 => 16 | 7 => 17 | 8 => 22 | 9 => 23
def recvS : Fin 10 → DmaSem sig := fun
  | 0 => 10 | 1 => 11 | 2 => 12 | 3 => 13 | 4 => 18 | 5 => 19 | 6 => 20 | 7 => 21 | 8 => 24 | 9 => 25

def csem : Ck → SemLoc sig := fun
  | none => .reg barS
  | some (.inl i) => .dma (sendS i)
  | some (.inr i) => .dma (recvS i)

abbrev cell (j : Ck) (c : Dev nD) : GSem nD τ sig := ((c : Thread nD τ), csem j)

theorem csem_injective : Function.Injective csem := by decide

theorem cell_injective : Function.Injective (fun p : Dev nD × Ck => cell p.2 p.1) := fun p p' h =>
  Prod.ext (congrArg (fun g : GSem nD τ sig => g.1.1) h) (csem_injective (congrArg (fun g : GSem nD τ sig => g.2) h))

/-- The cell at a semaphore, if there is one. -/
def cinv : SemLoc sig → Option Ck := Function.partialInv csem

theorem cinv_csem (j : Ck) : cinv (csem j) = some j := Function.partialInv_left csem_injective j

/-- The device at the other end of a link. -/
def peer : Fin 10 → Dev nD → Dev nD := fun
  | 0 => p1 | 2 => p1 | 5 => p1 | 7 => p1 | 8 => p1
  | 1 => p2 | 3 => p2 | 4 => p2 | 6 => p2 | 9 => p2

theorem peer_peer : ∀ i c, peer i (peer i c) = c := by decide

/-- What a link's transfer counts on each of its two semaphores. -/
def amt : Fin 10 → ℕ := fun
  | 8 => L1.view.dmaCredit
  | 9 => L1.view.dmaCredit
  | _ => (B1.slice R0 (fun _ => rfl)).view.dmaCredit

theorem amt_pos (i : Fin 10) : 0 < amt i := by
  unfold amt
  split <;> exact View.dmaCredit_pos _ (by decide)

/-! ## What is handed over -/

section Pay
variable (I : Dev nD → Inp F)

/-- Link `i`'s destination on device `d`, holding what device `s` sends. -/
def land (i : Fin 10) (d s : Dev nD) : sProp 𝕄 := match i with
  | 0 => owns (d : Thread nD τ) (B1.slice R0 (fun _ => rfl)) fullShare (cs0 I s)
  | 1 => owns (d : Thread nD τ) (B1.slice R1 (fun _ => rfl)) fullShare (cs1 I s)
  | 2 => owns (d : Thread nD τ) (B1.slice R2 (fun _ => rfl)) fullShare (cs2 I s)
  | 3 => owns (d : Thread nD τ) (B1.slice R3 (fun _ => rfl)) fullShare (cs3 I s)
  | 4 => owns (d : Thread nD τ) (B3.slice R0 (fun _ => rfl)) fullShare (sm0 I s)
  | 5 => owns (d : Thread nD τ) (B3.slice R1 (fun _ => rfl)) fullShare (sm1 I s)
  | 6 => owns (d : Thread nD τ) (B3.slice R2 (fun _ => rfl)) fullShare (sm2 I s)
  | 7 => owns (d : Thread nD τ) (B3.slice R3 (fun _ => rfl)) fullShare (sm3 I s)
  | 8 => owns (d : Thread nD τ) L1 fullShare (ls I s)
  | 9 => owns (d : Thread nD τ) L3 fullShare (lt I s)

/-- Half of link `i`'s source on device `c`, at what it sends. -/
def srcHalf (i : Fin 10) (c : Dev nD) : sProp 𝕄 := match i with
  | 0 => owns (c : Thread nD τ) (B0.slice R0 (fun _ => rfl)) fullShare.right (cs0 I c)
  | 1 => owns (c : Thread nD τ) (B0.slice R1 (fun _ => rfl)) fullShare.right (cs1 I c)
  | 2 => owns (c : Thread nD τ) (B0.slice R2 (fun _ => rfl)) fullShare.right (cs2 I c)
  | 3 => owns (c : Thread nD τ) (B0.slice R3 (fun _ => rfl)) fullShare.right (cs3 I c)
  | 4 => owns (c : Thread nD τ) (B2.slice R0 (fun _ => rfl)) fullShare.right (sm0 I c)
  | 5 => owns (c : Thread nD τ) (B2.slice R1 (fun _ => rfl)) fullShare.right (sm1 I c)
  | 6 => owns (c : Thread nD τ) (B2.slice R2 (fun _ => rfl)) fullShare.right (sm2 I c)
  | 7 => owns (c : Thread nD τ) (B2.slice R3 (fun _ => rfl)) fullShare.right (sm3 I c)
  | 8 => owns (c : Thread nD τ) L0 fullShare.right (ls I c)
  | 9 => owns (c : Thread nD τ) L2 fullShare.right (lt I c)

/-- Link `i`'s destination on device `d`, at whatever it holds. -/
def dstAny (i : Fin 10) (d : Dev nD) : sProp 𝕄 := match i with
  | 0 => ownsAny (d : Thread nD τ) (B1.slice R0 (fun _ => rfl))
  | 1 => ownsAny (d : Thread nD τ) (B1.slice R1 (fun _ => rfl))
  | 2 => ownsAny (d : Thread nD τ) (B1.slice R2 (fun _ => rfl))
  | 3 => ownsAny (d : Thread nD τ) (B1.slice R3 (fun _ => rfl))
  | 4 => ownsAny (d : Thread nD τ) (B3.slice R0 (fun _ => rfl))
  | 5 => ownsAny (d : Thread nD τ) (B3.slice R1 (fun _ => rfl))
  | 6 => ownsAny (d : Thread nD τ) (B3.slice R2 (fun _ => rfl))
  | 7 => ownsAny (d : Thread nD τ) (B3.slice R3 (fun _ => rfl))
  | 8 => ownsAny (d : Thread nD τ) L1
  | 9 => ownsAny (d : Thread nD τ) L3

/-- The destination together with the fact that its owner has opened the cell that counts the transfer. -/
def landAny (i : Fin 10) (d : Dev nD) : sProp 𝕄 := iprop(reached ER (cell (some (.inr i)) d) 0 ∗ dstAny i d)

/-- What device `p1 c`'s signal (`false`) and device `p2 c`'s (`true`) hand device `c`: the destinations, on the
    signaller, of the five links between the two. -/
def barPay (c : Dev nD) : Bool → sProp 𝕄 := fun
  | false => iprop(landAny 0 (p1 c) ∗ landAny 2 (p1 c) ∗ landAny 5 (p1 c) ∗ landAny 8 (p1 c) ∗ landAny 7 (p1 c))
  | true => iprop(landAny 1 (p2 c) ∗ landAny 4 (p2 c) ∗ landAny 3 (p2 c) ∗ landAny 6 (p2 c) ∗ landAny 9 (p2 c))

instance land_storable (i : Fin 10) (d s : Dev nD) : BI.Storable (upEmb : UEmb _ 𝕄) (land I i d s) := by
  unfold land; split <;> infer_instance
instance srcHalf_storable (i : Fin 10) (c : Dev nD) : BI.Storable (upEmb : UEmb _ 𝕄) (srcHalf I i c) := by
  unfold srcHalf; split <;> infer_instance
instance dstAny_storable (i : Fin 10) (d : Dev nD) : BI.Storable (upEmb : UEmb _ 𝕄) (dstAny (F := F) i d) := by
  unfold dstAny; split <;> infer_instance
instance landAny_storable (i : Fin 10) (d : Dev nD) : BI.Storable (upEmb : UEmb _ 𝕄) (landAny (F := F) i d) := by
  unfold landAny; infer_instance
instance barPay_storable (c : Dev nD) (b : Bool) : BI.Storable (upEmb : UEmb _ 𝕄) (barPay (F := F) c b) := by
  unfold barPay; split <;> infer_instance

/-- What a cell's duty hands over. -/
def pay (j : Ck) (c : Dev nD) (b : Bool) : sProp 𝕄 := match j with
  | none => barPay c b
  | some (.inl i) => srcHalf I i c
  | some (.inr i) => land I i c (peer i c)

instance pay_storable (j : Ck) (c : Dev nD) (b : Bool) : BI.Storable (upEmb : UEmb _ 𝕄) (pay I j c b) := by
  unfold pay; split <;> infer_instance

/-! ## The schedule -/

/-- The duties of a cell: the barrier's two signallers, a transfer's one landing. -/
def dut : Ck → Finset Bool := fun
  | none => Finset.univ
  | some _ => {false}

/-- What one duty of a cell counts. -/
def amtC : Ck → ℕ := fun
  | none => 1
  | some (.inl i) => amt i
  | some (.inr i) => amt i

theorem amtC_pos (j : Ck) : 0 < amtC j := match j with
  | none => Nat.one_pos
  | some (.inl i) => amt_pos i
  | some (.inr i) => amt_pos i

/-- Duties, amount and payload of any semaphore: those of the cell at it. -/
def dutG (g : GSem nD τ sig) : Finset Bool := match cinv g.2 with | some j => dut j | none => ∅
def amtG (g : GSem nD τ sig) : ℕ := match cinv g.2 with | some j => amtC j | none => 1
def payG (g : GSem nD τ sig) (b : Bool) : sProp 𝕄 := match cinv g.2 with | some j => pay I j g.1.1 b | none => iprop(emp)

theorem amtG_pos (g : GSem nD τ sig) : 0 < amtG g := by
  unfold amtG; split
  · exact amtC_pos _
  · exact Nat.one_pos

instance payG_storable (g : GSem nD τ sig) (b : Bool) : BI.Storable (upEmb : UEmb _ 𝕄) (payG I g b) := by
  unfold payG; split <;> infer_instance

/-- One round per cell of the exchange. -/
def Rd : Rounds.Schedule (GSem nD τ sig) Bool 𝕄 where
  duties g r := if r = 0 ∧ g.1.2 = .tc then dutG g else ∅
  unitless _ := False
  amount g _ _ := amtG g
  payload g _ b := payG I g b
  amount_pos g _ _ _ := amtG_pos g

instance Rd_payload_storable (g : GSem nD τ sig) (r : ℕ) (b : Bool) : BI.Storable (upEmb : UEmb _ 𝕄) ((Rd I).payload g r b) :=
  payG_storable I g b

variable (j : Ck) (c : Dev nD) (b : Bool)

theorem duties_cell : (Rd I).duties (cell j c) 0 = dut j := by
  have h : (0 : ℕ) = 0 ∧ (cell j c).1.2 = .tc := ⟨rfl, rfl⟩
  have e : (Rd I).duties (cell j c) 0 = if (0 : ℕ) = 0 ∧ (cell j c).1.2 = .tc then dutG (cell j c) else ∅ := rfl
  rw [e, if_pos h]; unfold dutG; rw [cinv_csem]
theorem duties_later (g : GSem nD τ sig) : ∀ r, 1 ≤ r → (Rd I).duties g r = ∅ := fun r hr => by
  exact if_neg fun h => by omega
theorem amount_cell : (Rd I).amount (cell j c) 0 b = amtC j := by show amtG _ = _; unfold amtG; rw [cinv_csem]
theorem payload_cell : (Rd I).payload (cell j c) 0 b = pay I j c b := by show payG I _ b = _; unfold payG; rw [cinv_csem]

/-- What a cell's wait counts in all. -/
def expC : Ck → ℕ := fun
  | none => 2
  | some (.inl i) => amt i
  | some (.inr i) => amt i

theorem expect_cell : (Rd I).expect (cell j c) 0 = expC j := by
  unfold Schedule.expect Schedule.amountOf
  rw [duties_cell, Finset.sum_congr rfl fun b _ => amount_cell I j c b]
  match j with
  | none => rfl
  | some (.inl i) => exact Finset.sum_singleton _ _
  | some (.inr i) => exact Finset.sum_singleton _ _

/-- What a cell's wait receives. -/
def gets : sProp 𝕄 := match j with
  | none => iprop(barPay c false ∗ barPay c true)
  | some j => pay I (some j) c false

theorem rest_cell : bigSep ((Rd I).duties (cell j c) 0 \ ∅) (fun b => (Rd I).payload (cell j c) 0 b) = gets I j c := by
  rw [Finset.sdiff_empty, duties_cell, bigSep_congr (fun b _ => payload_cell I j c b)]
  match j with
  | none =>
    show bigSep Finset.univ _ = _
    rw [bigSep_univ_eq_bigSepL [false, true] (by decide) (by decide), bigSepL_cons_cons, bigSepL_singleton]; rfl
  | some j => show bigSep {false} _ = _; rw [bigSep_singleton]; rfl

end Pay

/-! ## What each device owes, and the levels -/

/-- The links whose sends are still to come, as tallies on the peers' receive cells. -/
def owedL (c : Dev nD) : List (Fin 10) → CellTallies nD τ sig Unit
  | [] => 0
  | i :: l => owedL c l + tallyAt (cell (some (.inr i)) (peer i c)) () (amt i)

/-- The sends in program order. -/
abbrev order : List (Fin 10) := [0, 1, 2, 4, 3, 5, 8, 6, 7, 9]

/-- What a device owes after its first signal, and at the start. -/
def O₁ (c : Dev nD) : CellTallies nD τ sig Unit := owedL c order + tallyAt (cell none (p2 c)) () 1
def O₀ (c : Dev nD) : CellTallies nD τ sig Unit := O₁ c + tallyAt (cell none (p1 c)) () 1

def L (g : GSem nD τ sig) : Finset Unit := if g.1.2 = .tc then {()} else ∅

/-- The order of the waits: each is below everything its device still owes then. -/
def lvC : Ck → ℕ := fun
  | none => 1
  | some (.inl _) => 0
  | some (.inr i) => (fun | 0 => 2 | 1 => 3 | 2 => 4 | 3 => 5 | 8 => 6 | 9 => 7 | _ => 8 : Fin 10 → ℕ) i

def lv (g : GSem nD τ sig) (_ : Unit) : ℕ := match cinv g.2 with | some j => lvC j | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (j : Ck) (c : Dev nD) (u : Unit) : lv (cell j c) u = lvC j := by unfold lv; rw [cinv_csem]

theorem tallyAt_pos {g g' : GSem nD τ sig} {u u' : Unit} {n : ℕ} (h : 0 < tallyAt g u n g' u') : g' = g := by
  rw [tallyAt_apply] at h
  by_contra hn
  rw [if_neg fun h' => hn h'.1] at h; exact Nat.lt_irrefl 0 h

theorem pos_right {a b : ℕ} (h : 0 < a + b) (h0 : ¬ 0 < a) : 0 < b := by omega

theorem owedL_pos {c : Dev nD} {g : GSem nD τ sig} {u : Unit} : ∀ {l : List (Fin 10)}, 0 < owedL c l g u →
    ∃ i ∈ l, g = cell (some (.inr i)) (peer i c)
  | [], h => absurd h (Nat.lt_irrefl 0)
  | i :: l, h => by
    unfold owedL at h
    rw [Pi.add_apply, Finsupp.add_apply] at h
    by_cases h0 : 0 < owedL c l g u
    · obtain ⟨i', hi', e⟩ := owedL_pos h0
      exact ⟨i', List.mem_cons_of_mem _ hi', e⟩
    · exact ⟨i, List.mem_cons_self, tallyAt_pos (pos_right h h0)⟩

theorem O₀_pos {c : Dev nD} {g : GSem nD τ sig} {u : Unit} (h : 0 < O₀ c g u) : ∃ j d, 0 < lvC j ∧ g = cell j d := by
  unfold O₀ O₁ at h
  rw [Pi.add_apply, Finsupp.add_apply, Pi.add_apply, Finsupp.add_apply] at h
  by_cases h0 : 0 < owedL c order g u
  · obtain ⟨i, -, e⟩ := owedL_pos h0
    exact ⟨some (.inr i), peer i c, (by decide : ∀ i, 0 < lvC (some (.inr i))) i, e⟩
  · by_cases h1 : 0 < tallyAt (cell none (p2 c)) () 1 g u
    · exact ⟨none, p2 c, by decide, tallyAt_pos h1⟩
    · exact ⟨none, p1 c, by decide, tallyAt_pos (pos_right h (fun h2 => h1 (pos_right h2 h0)))⟩

/-- A wait on a cell below the links still owed. -/
theorem mayWait_cell (c : Dev nD) (j : Ck) (l : List (Fin 10)) (h : ∀ i ∈ l, lvC j < lvC (some (.inr i))) :
    (levAts L lv : sProp 𝕄) ⊢ MayWait (c : Thread nD τ) (csem j) () (owedL c l) :=
  MayOwe.of_cut (L := L) (lev := lv) (lvC j) (fun p hp => by rw [Finset.mem_singleton.mp hp, L_tc]; exact Finset.mem_singleton_self _)
    (fun g u hg => by obtain ⟨i, -, rfl⟩ := owedL_pos hg; exact Finset.mem_singleton_self _)
    (fun p hp => by rw [Finset.mem_singleton.mp hp]; exact (lv_cell j c ()).le)
    (fun g u hg => by obtain ⟨i, hi, rfl⟩ := owedL_pos hg; rw [lv_cell]; exact h i hi)

/-- A wait on a semaphore that is none of the exchange's, whatever of the start's debts is owed. -/
theorem mayWait_stage (c : Dev nD) (s : SemLoc sig) (hs : cinv s = none) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by obtain ⟨j, d, -, rfl⟩ := O₀_pos hg; exact Finset.mem_singleton_self _)
      (fun p hp => by rw [Finset.mem_singleton.mp hp]; unfold lv; rw [hs])
      (fun g u hg => by obtain ⟨j, d, h, rfl⟩ := O₀_pos hg; rw [lv_cell]; exact h)
  · rw [MayWait_zero]; iintro -; iempintro

/-- What a core owes, whatever it has waited for. -/
def owesA (c : Dev nD) (O : CellTallies nD τ sig Unit) : sProp 𝕄 := iprop(∃ W, owes (c : Thread nD τ) O W)

end Cert.KernelIdeal.Run

end
-- ==== Proof.KernelIdeal.Steps.lean ====
/-
# The three kinds of step of the exchange

A device's arrival signal, a link's transfer and a wait, each as one rule over what the protocol hands over: a transfer
lends half of its source and spends one debt, a wait receives its cell's payload and gives the cell's counter back.
-/
module

public import proofs.«01_k».proof.Proof.KernelIdeal.Protocol

@[expose] public section

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ

variable (I : Dev nD → Inp F) (K : Dev nD × Ck → ℕ)

/-- What every device knows throughout: each cell's invariant, that each barrier cell has reached its round, and the levels. -/
def recs : sProp 𝕄 :=
  iprop((bigSep Finset.univ fun p : Dev nD × Ck => cellInv ER (Rd I) (K p) (cell p.2 p.1))
    ∗ (bigSep Finset.univ fun d : Dev nD => reached ER (cell none d) 0) ∗ levAts L lv)

instance recs_persistent : BI.Persistent (recs I K) := by unfold recs; infer_instance

theorem recs_inv (j : Ck) (c : Dev nD) : recs I K ⊢ cellInv ER (Rd I) (K (c, j)) (cell j c) := by
  unfold recs
  iintro ⟨H, -, -⟩
  have h : (bigSep Finset.univ fun p : Dev nD × Ck => (cellInv ER (Rd I) (K p) (cell p.2 p.1) : sProp 𝕄)) ⊢ cellInv ER (Rd I) (K (c, j)) (cell j c) :=
    bigSep_elim (Finset.mem_univ ((c, j) : Dev nD × Ck))
  iapply h; iexact H

theorem recs_reached (c : Dev nD) : recs I K ⊢ reached ER (cell none c) 0 := by
  unfold recs
  iintro ⟨-, H, -⟩
  have h : (bigSep Finset.univ fun d : Dev nD => (reached ER (cell none d) 0 : sProp 𝕄)) ⊢ reached ER (cell none c) 0 :=
    bigSep_elim (Finset.mem_univ c)
  iapply h; iexact H

theorem recs_lev : recs I K ⊢ levAts L lv := by
  unfold recs
  iintro ⟨-, -, H⟩
  iexact H

/-- The two duties a link's sender pays: its own send cell's, which is open, and the peer's receive cell's. -/
def sndTok (i : Fin 10) (c : Dev nD) : sProp 𝕄 :=
  iprop(reached ER (cell (some (.inl i)) c) 0 ∗ dutyTok ER (cell (some (.inl i)) c) 0 false ∗ dutyTok ER (cell (some (.inr i)) (peer i c)) 0 false)

/-- The right to wait on a cell of one's own, once. -/
def waitTok (j : Ck) (c : Dev nD) : sProp 𝕄 :=
  iprop(atPos ER (cell j c) 0 ∅ 0 ∗ cred (tallyAt (cell j c) () (expC j)))

variable (c : Dev nD) {α : Type} {Q : α → sProp (MT nD τ sig Unit (Elt F) ℕ UU ℕ)}

abbrev 𝒱₀ : Variants := Variants.none

local notation "wpc" => wp frame (wpE (defs₀ (F := F)) 𝒱₀ (c : Thread nD τ) none) Set.univ

/-- The signal to a partner pays one duty of its barrier cell. -/
theorem signal_step (d : Dev nD) (b : Bool) (n : Dev nD) (hn : n = d) (s : Sem sig) (hs : s = barS) (O : CellTallies nD τ sig Unit) (k' : ℕ) (hk : k' = 1)
    {k : PUnit → Prog (TpuEff nD τ sig (Elt F) Λ₀ .tc) α} :
    iprop(recs I K ∗ dutyTok ER (cell none d) 0 b ∗ barPay d b ∗ owesA c (O + tallyAt (cell none d) () 1))
      ⊢ iprop((owesA c O -∗ wpc (k ⟨⟩) Q) -∗ wpc (.op (.semSignal (n : Thread nD τ) s k') k) Q) := by
  subst hn hs hk
  unfold owesA
  have hp : barPay n b ⊢ (Rd I).payload ((n : Thread nD τ), SemLoc.reg barS) 0 b := Entails.of_eq (payload_cell I none n b).symm
  iintro ⟨#HR, Ht, Hp, %W, HO⟩ Hk
  iapply (Rounds.wp_signal 𝒱₀ ER (Rd I) (c : Thread nD τ) none (dst := (n : Thread nD τ)) (κ := K (n, none))
      (d := b) (show b ∈ (Rd I).duties (cell none n) 0 by rw [duties_cell I none n]; exact Finset.mem_univ _) (amount_cell I none n b) () O rfl) $$ [HO Ht Hp]
  · isplitr; · iapply (recs_inv I K none n); iexact HR
    isplitl [HO]; · iexact HO
    isplitl [Ht]; · iexact Ht
    isplitl [Hp]; · iapply hp; iexact Hp
    iapply (recs_reached I K n); iexact HR
  iintro HO
  iapply Hk
  iexists W; iexact HO

/-- A wait on a cell of the exchange, below everything still owed: the cell's payload, and its counter at zero. -/
theorem wait_step (j : Ck) (l : List (Fin 10)) (hl : ∀ i ∈ l, lvC j < lvC (some (.inr i))) {w : TpuEff nD τ sig (Elt F) Λ₀ .tc PUnit} {sm : SemLoc sig} {k' : ℕ}
    (hw : ∀ K : PUnit → sProp (MT nD τ sig Unit (Elt F) ℕ UU ℕ), wpE (defs₀ (F := F)) 𝒱₀ (c : Thread nD τ) none Set.univ w K = waitSpec (c : Thread nD τ) Set.univ sm k' K)
    (hs : sm = csem j) (hk : k' = expC j)
    {k : PUnit → Prog (TpuEff nD τ sig (Elt F) Λ₀ .tc) α} :
    iprop(recs I K ∗ waitTok j c ∗ owesA c (owedL c l))
      ⊢ iprop((owesA c (owedL c l) ∗ semVal (cell j c) 0 ∗ gets I j c -∗ wpc (k ⟨⟩) Q) -∗ wpc (.op w k) Q) := by
  subst hs hk
  unfold owesA waitTok
  iintro ⟨#HR, ⟨Hat, Hc⟩, %W, HO⟩ Hk
  iapply (Rounds.wp_wait_rest_token 𝒱₀ ER (Rd I) (c : Thread nD τ) none (κ := K (c, j)) hw (Set.mem_univ _) () (O := owedL c l) (W := W)
    (R := 0) (m := 0) (T := ∅) (by rw [Nat.zero_add, expect_cell])) $$ [Hc HO Hat]
  · isplitr; · iapply (recs_inv I K j c); iexact HR
    isplitl [Hc]; · iexact Hc
    isplitl [HO]; · iexact HO
    isplitr; · iapply (mayWait_cell c j l hl); iapply (recs_lev I K); iexact HR
    iexact Hat
  iintro ⟨HO, Hat, -, Hp⟩
  ihave Hp := (Entails.of_eq (rest_cell I j c)) $$ Hp
  imod (Rounds.cell_close ER (Rd I) (Set.mem_univ (K (c, j))) (fun h => h) (R := 0 + 1) (duties_later I (cell j c))) $$ [Hat] with Hz
  · isplitr; · iapply (recs_inv I K j c); iexact HR
    iexact Hat
  iapply Hk
  isplitl [HO]; · iexists _; iexact HO
  isplitl [Hz]; · iexact Hz
  iexact Hp

/-- A wait on a DMA semaphore of the exchange. -/
theorem wait_dma (j : Ck) (l : List (Fin 10)) (hl : ∀ i ∈ l, lvC j < lvC (some (.inr i))) {s : DmaSem sig} {sp sp' : Space} {sh sh' : Shape} {e e' : EltTy}
    {src : Memref sig .tc sp' sh' e'} {dst : Memref sig .tc sp sh e} {hsrc : src.view.WordExact} {hdst : dst.view.WordExact}
    (hs : SemLoc.dma s = csem j) (hk : dst.view.dmaCredit = expC j)
    {k : PUnit → Prog (TpuEff nD τ sig (Elt F) Λ₀ .tc) α} :
    iprop(recs I K ∗ waitTok j c ∗ owesA c (owedL c l))
      ⊢ iprop((owesA c (owedL c l) ∗ semVal (cell j c) 0 ∗ gets I j c -∗ wpc (k ⟨⟩) Q) -∗ wpc (.op (.waitDma2 s src dst hsrc hdst) k) Q) :=
  wait_step I K c j l hl (wpE_waitDma2_eq 𝒱₀ (c : Thread nD τ) none Set.univ) hs hk

/-- A link's transfer, its source lent at half a share. -/
theorem send_core (i : Fin 10) (l : List (Fin 10)) {s' : Shape} {e : EltTy} {src dst : Memref sig .tc .vmem s' e}
    {sS rS : DmaSem sig} {n : Dev nD} {hsc : dst.view.ref.isScScratch = false} {hsrc : src.view.WordExact} {hdst : dst.view.WordExact}
    {hsem : DmaTarget.Typed .vmem (.dma rS) (.remote (Dev.tc n : Thread nD τ) dst (.dma sS) hsc)}
    {fs : Buf (Elt F) (src.view.loc (c : Thread nD τ))} {fd : Buf (Elt F) (dst.view.loc (n : Thread nD τ))} {q : PosShare TreeShare}
    (hn : n = peer i c) (hs : sS = sendS i) (hr : rS = recvS i) (hA : dst.view.dmaCredit = amt i)
    (h1 : (src.view.loc (c : Thread nD τ) ↦[src.view.set]{q} fs : sProp 𝕄) ⊢ srcHalf I i c)
    (h2 : (dst.view.loc (n : Thread nD τ) ↦[dst.view.set]{fullShare} (dst.view.write (Elt F) fd (src.view.read (Elt F) fs) Finset.univ) : sProp 𝕄) ⊢ land I i n c)
    {k : PUnit → Prog (TpuEff nD τ sig (Elt F) Λ₀ .tc) α} :
    iprop(recs I K ∗ sndTok i c ∗ reached ER (cell (some (.inr i)) (peer i c)) 0 ∗ (src.view.loc (c : Thread nD τ) ↦[src.view.set]{q} fs) ∗ (dst.view.loc (n : Thread nD τ) ↦[dst.view.set]{fullShare} fd)
        ∗ owesA c (owedL c (i :: l)))
      ⊢ iprop((cred (tallyAt (cell (some (.inl i)) c) () (expC (some (.inl i)))) ∗ owesA c (owedL c l) -∗ wpc (k ⟨⟩) Q)
          -∗ wpc (.op (.enqueueDma src (.remote (Dev.tc n : Thread nD τ) dst (.dma sS) hsc) (.dma rS) hsrc hdst hsem) k) Q) := by
  subst hn hs hr
  unfold owesA sndTok
  have hp : land I i (peer i c) c ⊢ (Rd I).payload (cell (some (.inr i)) (peer i c)) 0 false := by
    rw [payload_cell]; show _ ⊢ land I i (peer i c) (peer i (peer i c)); rw [peer_peer]
  iintro ⟨#HR, ⟨#Hr1, Ht1, Ht2⟩, #Hr2, Hs, Hd, %W, HO⟩ Hk
  iapply (Rounds.wp_send_pointsTo 𝒱₀ ER (Rd I) (c : Thread nD τ) none (κ₁ := K (c, some (.inl i))) (κ₂ := K (peer i c, some (.inr i)))
    (r₁ := 0) (r₂ := 0) (d₁ := false) (d₂ := false) (fd := fd)
    (show false ∈ (Rd I).duties (cell (some (.inl i)) c) 0 by rw [duties_cell I (some (.inl i)) c]; exact Finset.mem_singleton_self _) (show false ∈ (Rd I).duties (cell (some (.inr i)) (peer i c)) 0 by rw [duties_cell I (some (.inr i)) (peer i c)]; exact Finset.mem_singleton_self _)
    () () (amt i) (show dst.view.amount (.dma (recvS i)) = amt i from hA) (amount_cell I (some (.inl i)) c false) (amount_cell I (some (.inr i)) (peer i c) false) (owedL c l) rfl (W := W)
    (h1.trans (Entails.of_eq (payload_cell I (some (.inl i)) c false).symm))
    (h2.trans hp)) $$ [Hs Hd HO Ht1 Ht2]
  · isplitr; · iapply (recs_inv I K (some (.inl i)) c); iexact HR
    isplitr; · iapply (recs_inv I K (some (.inr i)) (peer i c)); iexact HR
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The transfer of a slot of a chunk buffer into a slot of the peer's. -/
theorem send_slot (i : Fin 10) (l : List (Fin 10)) {a b : Memref sig .tc .vmem S1x1024x256 .bf16} {sS rS : DmaSem sig} {n : Dev nD}
    {hsq : S1x1024x256.Squeezes S1024x256}
    {hsc : (b.squeeze S1024x256 hsq).view.ref.isScScratch = false}
    {hsrc : (a.squeeze S1024x256 hsq).view.WordExact}
    {hdst : (b.squeeze S1024x256 hsq).view.WordExact}
    {hsem : DmaTarget.Typed .vmem (.dma rS) (.remote (Dev.tc n : Thread nD τ) (b.squeeze S1024x256 hsq) (.dma sS) hsc)}
    {X : Vec F S1x1024x256 .bf16} (hn : n = peer i c) (hs : sS = sendS i) (hr : rS = recvS i)
    (hA : (b.squeeze S1024x256 hsq).view.dmaCredit = amt i)
    (h1 : (owns (c : Thread nD τ) a fullShare.right X : sProp 𝕄) ⊢ srcHalf I i c)
    (h2 : (owns (n : Thread nD τ) b fullShare X : sProp 𝕄) ⊢ land I i n c)
    {k : PUnit → Prog (TpuEff nD τ sig (Elt F) Λ₀ .tc) α} :
    iprop(recs I K ∗ sndTok i c ∗ owns (c : Thread nD τ) a fullShare X
        ∗ (reached ER (cell (some (.inr i)) (peer i c)) 0 ∗ ownsAny (n : Thread nD τ) b) ∗ owesA c (owedL c (i :: l)))
      ⊢ iprop((owns (c : Thread nD τ) a fullShare.left X
            ∗ cred (tallyAt (cell (some (.inl i)) c) () (expC (some (.inl i)))) ∗ owesA c (owedL c l) -∗ wpc (k ⟨⟩) Q)
          -∗ wpc (.op (.enqueueDma (a.squeeze S1024x256 hsq)
              (.remote (Dev.tc n : Thread nD τ) (b.squeeze S1024x256 hsq) (.dma sS) hsc)
              (.dma rS) hsrc hdst hsem) k) Q) := by
  iintro ⟨#HR, Ht, Hs, ⟨#Hr2, Hd⟩, HO⟩ Hk
  ihave Hs := (owns_halves (c : Thread nD τ) a fullShare X).1 $$ Hs
  icases Hs with ⟨Hl, Hs⟩
  unfold owns at h1 h2
  unfold ownsAny owns
  icases Hs with ⟨%fs, %hfs, Hs⟩
  icases Hd with ⟨%Y, %fd, %hfd, Hd⟩
  subst hfs
  have e1 : (a.squeeze S1024x256 hsq).view.set
      = a.view.set := View.set_reshape _ _
  have e2 : (b.squeeze S1024x256 hsq).view.set
      = b.view.set := View.set_reshape _ _
  iapply (send_core I K c i l (src := a.squeeze S1024x256 hsq) (dst := b.squeeze S1024x256 hsq) (fs := fs) (fd := fd) (q := fullShare.right) hn hs hr hA
    (by
      rw [e1]; refine BIBase.Entails.trans ?_ h1
      iintro H; iexists fs; isplitr; · ipureintro; rfl
      iexact H)
    (by
      rw [e2]; refine BIBase.Entails.trans ?_ h2
      iintro H
      iexists ((b.squeeze S1024x256 hsq).view.write (Elt F) fd ((a.squeeze S1024x256 hsq).view.read (Elt F) fs) Finset.univ)
      isplitr; · ipureintro; exact landed_reshape b.view a.view hsq.numel_eq fd fs
      iexact H)) $$ [Ht Hs Hd HO]
  · isplitr; · iexact HR
    isplitl [Ht]; · iexact Ht
    isplitr; · iexact Hr2
    isplitl [Hs]; · rw [e1]; iexact Hs
    isplitl [Hd]; · rw [e2]; iexact Hd
    iexact HO
  iintro ⟨Hc, HO⟩
  iapply Hk
  isplitl [Hl]; · iexact Hl
  isplitl [Hc]; · iexact Hc
  iexact HO

/-- The transfer of a whole buffer of row sums into the peer's. -/
theorem send_whole (i : Fin 10) (l : List (Fin 10)) {a b : Memref sig .tc .vmem S1024x128 .bf16} {sS rS : DmaSem sig} {n : Dev nD}
    {hsc : b.view.ref.isScScratch = false} {hsrc : a.view.WordExact} {hdst : b.view.WordExact}
    {hsem : DmaTarget.Typed .vmem (.dma rS) (.remote (Dev.tc n : Thread nD τ) b (.dma sS) hsc)}
    {X : Vec F S1024x128 .bf16} (hn : n = peer i c) (hs : sS = sendS i) (hr : rS = recvS i) (hA : b.view.dmaCredit = amt i)
    (h1 : (owns (c : Thread nD τ) a fullShare.right X : sProp 𝕄) ⊢ srcHalf I i c)
    (h2 : (owns (n : Thread nD τ) b fullShare X : sProp 𝕄) ⊢ land I i n c)
    {k : PUnit → Prog (TpuEff nD τ sig (Elt F) Λ₀ .tc) α} :
    iprop(recs I K ∗ sndTok i c ∗ owns (c : Thread nD τ) a fullShare X ∗ (reached ER (cell (some (.inr i)) (peer i c)) 0 ∗ ownsAny (n : Thread nD τ) b) ∗ owesA c (owedL c (i :: l)))
      ⊢ iprop((owns (c : Thread nD τ) a fullShare.left X ∗ cred (tallyAt (cell (some (.inl i)) c) () (expC (some (.inl i)))) ∗ owesA c (owedL c l) -∗ wpc (k ⟨⟩) Q)
          -∗ wpc (.op (.enqueueDma a (.remote (Dev.tc n : Thread nD τ) b (.dma sS) hsc) (.dma rS) hsrc hdst hsem) k) Q) := by
  iintro ⟨#HR, Ht, Hs, ⟨#Hr2, Hd⟩, HO⟩ Hk
  ihave Hs := (owns_halves (c : Thread nD τ) a fullShare X).1 $$ Hs
  icases Hs with ⟨Hl, Hs⟩
  unfold owns at h1 h2
  unfold ownsAny owns
  icases Hs with ⟨%fs, %hfs, Hs⟩
  icases Hd with ⟨%Y, %fd, %hfd, Hd⟩
  subst hfs
  iapply (send_core I K c i l (src := a) (dst := b) (fs := fs) (fd := fd) (q := fullShare.right) hn hs hr hA
    (by
      refine BIBase.Entails.trans ?_ h1
      iintro H; iexists fs; isplitr; · ipureintro; rfl
      iexact H)
    (by
      refine BIBase.Entails.trans ?_ h2
      iintro H
      iexists (b.view.write (Elt F) fd (a.view.read (Elt F) fs) Finset.univ)
      isplitr; · ipureintro; exact View.read_write_univ _ _
      iexact H)) $$ [Ht Hs Hd HO]
  · isplitr; · iexact HR
    isplitl [Ht]; · iexact Ht
    isplitr; · iexact Hr2
    isplitl [Hs]; · iexact Hs
    isplitl [Hd]; · iexact Hd
    iexact HO
  iintro ⟨Hc, HO⟩
  iapply Hk
  isplitl [Hl]; · iexact Hl
  isplitl [Hc]; · iexact Hc
  iexact HO

end Cert.KernelIdeal.Run

end
-- ==== Proof.KernelIdeal.Halves.lean ====
/-
# The kernel's parts at their operands, and the stores of a slot's two halves
-/
module

public import proofs.«01_k».proof.Proof.KernelIdeal.Steps

@[expose] public section

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
open Cert.Cat

local notation "𝕄" => MT nD τ sig Unit (Elt F) ℕ UU ℕ

/-- A part of the kernel at the operands the launch gives it. -/
abbrev atArgs {β : Type 1}
    (f : (arg0 : Memref sig .tc .vmem S1x1024x1024 .bf16) → arg0.IsWhole → (arg1 : Memref sig .tc .vmem S1024x1024 .bf16) → arg1.IsWhole
      → (arg2 : Memref sig .tc .vmem S1024x1024 .bf16) → arg2.IsWhole → (arg3 : Memref sig .tc .vmem S1024x1024 .bf16) → arg3.IsWhole
      → (arg4 : Memref sig .tc .vmem S1024x1024 .bf16) → arg4.IsWhole → (arg5 : Memref sig .tc .vmem S1x1024x1024 .f32) → arg5.IsWhole
      → (arg6 : Memref sig .tc .vmem S4x1024x256 .bf16) → arg6.IsWhole → (arg7 : Memref sig .tc .vmem S4x1024x256 .bf16) → arg7.IsWhole
      → (arg8 : Memref sig .tc .vmem S4x1024x256 .bf16) → arg8.IsWhole → (arg9 : Memref sig .tc .vmem S4x1024x256 .bf16) → arg9.IsWhole
      → (arg10 : Memref sig .tc .vmem S1024x128 .bf16) → arg10.IsWhole → (arg11 : Memref sig .tc .vmem S1024x128 .bf16) → arg11.IsWhole
      → (arg12 : Memref sig .tc .vmem S1024x128 .bf16) → arg12.IsWhole → (arg13 : Memref sig .tc .vmem S1024x128 .bf16) → arg13.IsWhole
      → DmaSems sig S4 → DmaSems sig S4 → DmaSems sig S4 → DmaSems sig S4 → DmaSems sig S2 → DmaSems sig S2 → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scratch12 cc0_scratch13

/-- The staging buffers. -/
abbrev T0 : Memref sig .tc .vmem S1x1024x1024 .bf16 := Memref.whole cc0_stg0_0
abbrev T1 : Memref sig .tc .vmem S1024x1024 .bf16 := Memref.whole cc0_stg1_0
abbrev T2 : Memref sig .tc .vmem S1024x1024 .bf16 := Memref.whole cc0_stg2_0
abbrev T3 : Memref sig .tc .vmem S1024x1024 .bf16 := Memref.whole cc0_stg3_0
abbrev T4 : Memref sig .tc .vmem S1024x1024 .bf16 := Memref.whole cc0_stg4_0
abbrev T5 : Memref sig .tc .vmem S1x1024x1024 .f32 := Memref.whole cc0_stg5_0

/-- The devices the kernel computes for its signals and transfers. -/
theorem dev1 : ∀ c : Dev nD, (⟨k0_dev1 c, k0_dev1_lt c⟩ : Dev nD) = p1 c := by decide +kernel
theorem dev2 : ∀ c : Dev nD, (⟨k0_dev2 c, k0_dev2_lt c⟩ : Dev nD) = p2 c := by decide +kernel
theorem dev3 : ∀ c : Dev nD, (⟨k0_dev3 c, k0_dev3_lt c⟩ : Dev nD) = peer 0 c := by decide +kernel
theorem dev4 : ∀ c : Dev nD, (⟨k0_dev4 c, k0_dev4_lt c⟩ : Dev nD) = peer 1 c := by decide +kernel
theorem dev5 : ∀ c : Dev nD, (⟨k0_dev5 c, k0_dev5_lt c⟩ : Dev nD) = peer 2 c := by decide +kernel
theorem dev6 : ∀ c : Dev nD, (⟨k0_dev6 c, k0_dev6_lt c⟩ : Dev nD) = peer 4 c := by decide +kernel
theorem dev7 : ∀ c : Dev nD, (⟨k0_dev7 c, k0_dev7_lt c⟩ : Dev nD) = peer 3 c := by decide +kernel
theorem dev8 : ∀ c : Dev nD, (⟨k0_dev8 c, k0_dev8_lt c⟩ : Dev nD) = peer 5 c := by decide +kernel
theorem dev9 : ∀ c : Dev nD, (⟨k0_dev9 c, k0_dev9_lt c⟩ : Dev nD) = peer 8 c := by decide +kernel
theorem dev10 : ∀ c : Dev nD, (⟨k0_dev10 c, k0_dev10_lt c⟩ : Dev nD) = peer 6 c := by decide +kernel
theorem dev11 : ∀ c : Dev nD, (⟨k0_dev11 c, k0_dev11_lt c⟩ : Dev nD) = peer 7 c := by decide +kernel
theorem dev12 : ∀ c : Dev nD, (⟨k0_dev12 c, k0_dev12_lt c⟩ : Dev nD) = peer 9 c := by decide +kernel

/-- A slot whose first half holds `w`. -/
def half (c : Dev nD) (m : Memref sig .tc .vmem S1x1024x256 .bf16) (w : Vec F S1x1024x128 .bf16) : sProp 𝕄 :=
  iprop(∃ X : Vec F S1x1024x256 .bf16, owns (c : Thread nD τ) m fullShare (VecWindow.put (s := S1x1024x256) X ![0, 0, 0] ![1, 1024, 128] w))

/-- Each half of a slot lies in the slot. -/
theorem half_subset (a o : ℕ) (ho : o ≤ 128) (inb : ∀ x, (![a, 0, o] : Fin 3 → ℕ) x + S1x1024x128.size x ≤ S4x1024x256.size x)
    (inbR : ∀ x, (![a, 0, 0] : Fin 3 → ℕ) x + S1x1024x256.size x ≤ S4x1024x256.size x) :
    (Rect.unit (s := S4x1024x256) ![a, 0, o] S1x1024x128.size inb).set ⊆ (Rect.unit (s := S4x1024x256) ![a, 0, 0] S1x1024x256.size inbR).set := by
  intro i hi
  rw [Rect.mem_set_unit] at hi ⊢
  intro x
  have := hi x
  match x with
  | 0 => exact this
  | 1 => exact this
  | 2 =>
    change o ≤ (i 2).val ∧ (i 2).val < o + 128 at this
    change 0 ≤ (i 2).val ∧ (i 2).val < 0 + 256
    omega

section Rules
variable (c : Dev nD) {α : Type} {Q : α → sProp (MT nD τ sig Unit (Elt F) ℕ UU ℕ)}

local notation "wpc" => wp frame (wpE (defs₀ (F := F)) 𝒱₀ (c : Thread nD τ) none) Set.univ

/-- The load before the store of a slot's first half. -/
theorem load_first {m : Memref sig .tc .vmem S4x1024x256 .bf16} {a : ℕ} {inb : ∀ x, (![a, 0, 0] : Fin 3 → ℕ) x + S1x1024x128.size x ≤ S4x1024x256.size x}
    {inbR : ∀ x, (![a, 0, 0] : Fin 3 → ℕ) x + S1x1024x256.size x ≤ S4x1024x256.size x} {hR : ∀ x, (Rect.unit (s := S4x1024x256) ![a, 0, 0] S1x1024x256.size inbR).stride x = 1}
    {hl : m.view.LoadsAt (Rect.unit (s := S4x1024x256) ![a, 0, 0] S1x1024x128.size inb)} {k : Prog (TpuEff nD τ sig (Elt F) Λ₀ .tc) α} :
    (ownsAny (c : Thread nD τ) (m.slice (Rect.unit (s := S4x1024x256) ![a, 0, 0] S1x1024x256.size inbR) hR) : sProp 𝕄)
      ⊢ iprop((ownsAny (c : Thread nD τ) (m.slice (Rect.unit (s := S4x1024x256) ![a, 0, 0] S1x1024x256.size inbR) hR) -∗ wpc k Q)
        -∗ wpc (.op (.load m (Rect.unit (s := S4x1024x256) ![a, 0, 0] S1x1024x128.size inb) hl) fun _ => k) Q) := by
  unfold ownsAny
  iintro ⟨%X, H⟩ Hk
  iapply (load_part 𝒱₀ (c : Thread nD τ) none Set.univ (half_subset a 0 (by decide) inb inbR)) $$ H
  iintro H
  iapply Hk
  iexists X; iexact H

/-- The store of a slot's first half. -/
theorem store_first {m : Memref sig .tc .vmem S4x1024x256 .bf16} {a : ℕ} {inb : ∀ x, (![a, 0, 0] : Fin 3 → ℕ) x + S1x1024x128.size x ≤ S4x1024x256.size x}
    {inbR : ∀ x, (![a, 0, 0] : Fin 3 → ℕ) x + S1x1024x256.size x ≤ S4x1024x256.size x} {hR : ∀ x, (Rect.unit (s := S4x1024x256) ![a, 0, 0] S1x1024x256.size inbR).stride x = 1}
    {w : Vec F S1x1024x128 .bf16} {hx : (m.access (Rect.unit (s := S4x1024x256) ![a, 0, 0] S1x1024x128.size inb)).Stores Finset.univ}
    {hm : (Finset.univ : Finset (Rect.unit (s := S4x1024x256) ![a, 0, 0] S1x1024x128.size inb).shape.Idx) = Finset.univ ∨ ∀ x, (Rect.unit (s := S4x1024x256) ![a, 0, 0] S1x1024x128.size inb).stride x = 1}
    {k : PUnit → Prog (TpuEff nD τ sig (Elt F) Λ₀ .tc) α} :
    (ownsAny (c : Thread nD τ) (m.slice (Rect.unit (s := S4x1024x256) ![a, 0, 0] S1x1024x256.size inbR) hR) : sProp 𝕄)
      ⊢ iprop((half c (m.slice (Rect.unit (s := S4x1024x256) ![a, 0, 0] S1x1024x256.size inbR) hR) w -∗ wpc (k ⟨⟩) Q)
        -∗ wpc (.op (.store m (Rect.unit (s := S4x1024x256) ![a, 0, 0] S1x1024x128.size inb) w Finset.univ hx hm) k) Q) := by
  unfold ownsAny half
  have e : (fun x : Fin 3 => (![a, 0, 0] : Fin 3 → ℕ) x - (![a, 0, 0] : Fin 3 → ℕ) x) = ![0, 0, 0] := by
    funext x; match x with
    | 0 => exact Nat.sub_self _
    | 1 => rfl
    | 2 => rfl
  iintro ⟨%X, H⟩ Hk
  iapply (store_part 𝒱₀ (c : Thread nD τ) none Set.univ (half_subset a 0 (by decide) inb inbR) (fun _ => le_rfl)) $$ H
  iintro H
  iapply Hk
  iexists X; rw [← e]; iexact H

/-- The load before the store of a slot's second half. -/
theorem load_second {m : Memref sig .tc .vmem S4x1024x256 .bf16} {a : ℕ} {inb : ∀ x, (![a, 0, 128] : Fin 3 → ℕ) x + S1x1024x128.size x ≤ S4x1024x256.size x}
    {inbR : ∀ x, (![a, 0, 0] : Fin 3 → ℕ) x + S1x1024x256.size x ≤ S4x1024x256.size x} {hR : ∀ x, (Rect.unit (s := S4x1024x256) ![a, 0, 0] S1x1024x256.size inbR).stride x = 1}
    {hl : m.view.LoadsAt (Rect.unit (s := S4x1024x256) ![a, 0, 128] S1x1024x128.size inb)} {w : Vec F S1x1024x128 .bf16} {k : Prog (TpuEff nD τ sig (Elt F) Λ₀ .tc) α} :
    (half c (m.slice (Rect.unit (s := S4x1024x256) ![a, 0, 0] S1x1024x256.size inbR) hR) w : sProp 𝕄)
      ⊢ iprop((half c (m.slice (Rect.unit (s := S4x1024x256) ![a, 0, 0] S1x1024x256.size inbR) hR) w -∗ wpc k Q)
        -∗ wpc (.op (.load m (Rect.unit (s := S4x1024x256) ![a, 0, 128] S1x1024x128.size inb) hl) fun _ => k) Q) := by
  unfold half
  iintro ⟨%X, H⟩ Hk
  iapply (load_part 𝒱₀ (c : Thread nD τ) none Set.univ (half_subset a 128 le_rfl inb inbR)) $$ H
  iintro H
  iapply Hk
  iexists X; iexact H

/-- The store of a slot's second half completes it. -/
theorem store_second {m : Memref sig .tc .vmem S4x1024x256 .bf16} {a : ℕ} {inb : ∀ x, (![a, 0, 128] : Fin 3 → ℕ) x + S1x1024x128.size x ≤ S4x1024x256.size x}
    {inbR : ∀ x, (![a, 0, 0] : Fin 3 → ℕ) x + S1x1024x256.size x ≤ S4x1024x256.size x} {hR : ∀ x, (Rect.unit (s := S4x1024x256) ![a, 0, 0] S1x1024x256.size inbR).stride x = 1}
    {w0 w : Vec F S1x1024x128 .bf16} {hx : (m.access (Rect.unit (s := S4x1024x256) ![a, 0, 128] S1x1024x128.size inb)).Stores Finset.univ}
    {hm : (Finset.univ : Finset (Rect.unit (s := S4x1024x256) ![a, 0, 128] S1x1024x128.size inb).shape.Idx) = Finset.univ ∨ ∀ x, (Rect.unit (s := S4x1024x256) ![a, 0, 128] S1x1024x128.size inb).stride x = 1}
    {k : PUnit → Prog (TpuEff nD τ sig (Elt F) Λ₀ .tc) α} :
    (half c (m.slice (Rect.unit (s := S4x1024x256) ![a, 0, 0] S1x1024x256.size inbR) hR) w0 : sProp 𝕄)
      ⊢ iprop((owns (c : Thread nD τ) (m.slice (Rect.unit (s := S4x1024x256) ![a, 0, 0] S1x1024x256.size inbR) hR) fullShare (cat w0 w : Vec F S1x1024x256 .bf16) -∗ wpc (k ⟨⟩) Q)
        -∗ wpc (.op (.store m (Rect.unit (s := S4x1024x256) ![a, 0, 128] S1x1024x128.size inb) w Finset.univ hx hm) k) Q) := by
  unfold half
  have e : (fun x : Fin 3 => (![a, 0, 128] : Fin 3 → ℕ) x - (![a, 0, 0] : Fin 3 → ℕ) x) = ![0, 0, 128] := by
    funext x; match x with
    | 0 => exact Nat.sub_self _
    | 1 => rfl
    | 2 => rfl
  iintro ⟨%X, H⟩ Hk
  iapply (store_part 𝒱₀ (c : Thread nD τ) none Set.univ (half_subset a 128 le_rfl inb inbR)
    (fun x => by match x with | 0 => exact le_rfl | 1 => exact le_rfl | 2 => exact Nat.zero_le _)) $$ H
  iintro H
  iapply Hk
  rw [← put_put X w0 w ![0, 0, 0] _ rfl e]; iexact H

/-- The end of a part, its result restated. -/
theorem ret_step {v : α} (v' : α) (h : v = v') : Q v' ⊢ wpc (.ret v) Q := by
  subst h
  rw [wp_ret]
  iintro H
  imodintro
  iexact H

/-- The same under hypotheses. -/
theorem ret_end {P : sProp 𝕄} {v : α} (v' : α) (h : v = v') (H : Idealize.SL.ProofMode.Entails' P (Q v')) : Idealize.SL.ProofMode.Entails' P (wpc (.ret v) Q) :=
  BIBase.Entails.trans (show P ⊢ Q v' from H) (ret_step c v' h)

/-- What a transfer counts depends on its shape only. -/
theorem credit_slot (b : Memref sig .tc .vmem S1x1024x256 .bf16) (hsq : S1x1024x256.Squeezes S1024x256) :
    (b.squeeze S1024x256 hsq).view.dmaCredit = (B1.slice R0 (fun _ => rfl)).view.dmaCredit := rfl
theorem credit_rows (b : Memref sig .tc .vmem S1024x128 .bf16) : b.view.dmaCredit = L1.view.dmaCredit := rfl

/-- What a device needs to send a link and later wait for the transfer to leave. -/
def lnkTok (i : Fin 10) : sProp 𝕄 := iprop(sndTok i c ∗ atPos ER (cell (some (.inl i)) c) 0 ∅ 0)

variable (I : Dev nD → Inp F) (K : Dev nD × Ck → ℕ)

/-- The send of a link over a slot. -/
theorem send_step (i : Fin 10) (l : List (Fin 10)) {a b : Memref sig .tc .vmem S1x1024x256 .bf16} {sS rS : DmaSem sig} {n : Dev nD}
    {hsq : S1x1024x256.Squeezes S1024x256}
    {hsc : (b.squeeze S1024x256 hsq).view.ref.isScScratch = false}
    {hsrc : (a.squeeze S1024x256 hsq).view.WordExact}
    {hdst : (b.squeeze S1024x256 hsq).view.WordExact}
    {hsem : DmaTarget.Typed .vmem (.dma rS) (.remote (Dev.tc n : Thread nD τ) (b.squeeze S1024x256 hsq) (.dma sS) hsc)}
    {X : Vec F S1x1024x256 .bf16} (hn : n = peer i c) (hs : sS = sendS i) (hr : rS = recvS i)
    (hA : (B1.slice R0 (fun _ => rfl)).view.dmaCredit = amt i)
    (h1 : (owns (c : Thread nD τ) a fullShare.right X : sProp 𝕄) ⊢ srcHalf I i c)
    (h2 : (owns (n : Thread nD τ) b fullShare X : sProp 𝕄) ⊢ land I i n c)
    (h3 : (dstAny i n : sProp 𝕄) ⊢ ownsAny (n : Thread nD τ) b)
    {k : PUnit → Prog (TpuEff nD τ sig (Elt F) Λ₀ .tc) α} :
    iprop(recs I K ∗ lnkTok c i ∗ owns (c : Thread nD τ) a fullShare X ∗ landAny i (peer i c) ∗ owesA c (owedL c (i :: l)))
      ⊢ iprop((owns (c : Thread nD τ) a fullShare.left X ∗ waitTok (some (.inl i)) c ∗ owesA c (owedL c l) -∗ wpc (k ⟨⟩) Q)
          -∗ wpc (.op (.enqueueDma (a.squeeze S1024x256 hsq)
              (.remote (Dev.tc n : Thread nD τ) (b.squeeze S1024x256 hsq) (.dma sS) hsc)
              (.dma rS) hsrc hdst hsem) k) Q) := by
  have h3' : (dstAny i (peer i c) : sProp 𝕄) ⊢ ownsAny (n : Thread nD τ) b := by rw [← hn]; exact h3
  unfold lnkTok waitTok landAny
  iintro ⟨#HR, ⟨HT, HP⟩, HA, ⟨#Hr2, HD⟩, HO⟩ Hk
  iapply (send_slot I K c i l hn hs hr ((credit_slot b hsq).trans hA) h1 h2) $$ [HT HA HD HO]
  · isplitr; · iexact HR
    isplitl [HT]; · iexact HT
    isplitl [HA]; · iexact HA
    isplitl [HD]
    · isplitr; · iexact Hr2
      iapply h3'; iexact HD
    iexact HO
  iintro ⟨HA, HC, HO⟩
  iapply Hk
  isplitl [HA]; · iexact HA
  isplitl [HP HC]; · isplitl [HP]; · iexact HP
                     iexact HC
  iexact HO

/-- The send of a link over a buffer of row sums. -/
theorem send_step' (i : Fin 10) (l : List (Fin 10)) {a b : Memref sig .tc .vmem S1024x128 .bf16} {sS rS : DmaSem sig} {n : Dev nD}
    {hsc : b.view.ref.isScScratch = false} {hsrc : a.view.WordExact} {hdst : b.view.WordExact}
    {hsem : DmaTarget.Typed .vmem (.dma rS) (.remote (Dev.tc n : Thread nD τ) b (.dma sS) hsc)}
    {X : Vec F S1024x128 .bf16} (hn : n = peer i c) (hs : sS = sendS i) (hr : rS = recvS i) (hA : L1.view.dmaCredit = amt i)
    (h1 : (owns (c : Thread nD τ) a fullShare.right X : sProp 𝕄) ⊢ srcHalf I i c)
    (h2 : (owns (n : Thread nD τ) b fullShare X : sProp 𝕄) ⊢ land I i n c)
    (h3 : (dstAny i n : sProp 𝕄) ⊢ ownsAny (n : Thread nD τ) b)
    {k : PUnit → Prog (TpuEff nD τ sig (Elt F) Λ₀ .tc) α} :
    iprop(recs I K ∗ lnkTok c i ∗ owns (c : Thread nD τ) a fullShare X ∗ landAny i (peer i c) ∗ owesA c (owedL c (i :: l)))
      ⊢ iprop((owns (c : Thread nD τ) a fullShare.left X ∗ waitTok (some (.inl i)) c ∗ owesA c (owedL c l) -∗ wpc (k ⟨⟩) Q)
          -∗ wpc (.op (.enqueueDma a (.remote (Dev.tc n : Thread nD τ) b (.dma sS) hsc) (.dma rS) hsrc hdst hsem) k) Q) := by
  have h3' : (dstAny i (peer i c) : sProp 𝕄) ⊢ ownsAny (n : Thread nD τ) b := by rw [← hn]; exact h3
  unfold lnkTok waitTok landAny
  iintro ⟨#HR, ⟨HT, HP⟩, HA, ⟨#Hr2, HD⟩, HO⟩ Hk
  iapply (send_whole I K c i l hn hs hr ((credit_rows b).trans hA) h1 h2) $$ [HT HA HD HO]
  · isplitr; · iexact HR
    isplitl [HT]; · iexact HT
    isplitl [HA]; · iexact HA
    isplitl [HD]
    · isplitr; · iexact Hr2
      iapply h3'; iexact HD
    iexact HO
  iintro ⟨HA, HC, HO⟩
  iapply Hk
  isplitl [HA]; · iexact HA
  isplitl [HP HC]; · isplitl [HP]; · iexact HP
                     iexact HC
  iexact HO

/-- What the barrier's wait hands over, by link. -/
theorem gets_bar : gets I none c ⊢ iprop((landAny 0 (peer 0 c) ∗ landAny 2 (peer 2 c) ∗ landAny 5 (peer 5 c) ∗ landAny 8 (peer 8 c) ∗ landAny 7 (peer 7 c))
    ∗ landAny 1 (peer 1 c) ∗ landAny 4 (peer 4 c) ∗ landAny 3 (peer 3 c) ∗ landAny 6 (peer 6 c) ∗ landAny 9 (peer 9 c)) := BI.Entails.refl _

/-- A wait for a transfer of a slot, its payload restated. -/
theorem wait_slot (j : Ck) (l : List (Fin 10)) (hl : ∀ i ∈ l, lvC j < lvC (some (.inr i))) {s : DmaSem sig}
    {a b : Memref sig .tc .vmem S1x1024x256 .bf16} {hsq hsq' : S1x1024x256.Squeezes S1024x256} {hsrc : (a.squeeze S1024x256 hsq').view.WordExact} {hdst : (b.squeeze S1024x256 hsq).view.WordExact}
    (hs : SemLoc.dma s = csem j) (hk : (B1.slice R0 (fun _ => rfl)).view.dmaCredit = expC j) (G : sProp 𝕄) (hG : gets I j c ⊢ G)
    {k : PUnit → Prog (TpuEff nD τ sig (Elt F) Λ₀ .tc) α} :
    iprop(recs I K ∗ waitTok j c ∗ owesA c (owedL c l))
      ⊢ iprop((owesA c (owedL c l) ∗ semVal (cell j c) 0 ∗ G -∗ wpc (k ⟨⟩) Q) -∗ wpc (.op (.waitDma2 s (a.squeeze S1024x256 hsq') (b.squeeze S1024x256 hsq) hsrc hdst) k) Q) := by
  iintro H Hk
  iapply (wait_dma I K c j l hl hs ((credit_slot b hsq).trans hk)) $$ H
  iintro ⟨HO, Hz, Hg⟩
  iapply Hk
  isplitl [HO]; · iexact HO
  isplitl [Hz]; · iexact Hz
  iapply hG; iexact Hg

/-- A wait for a transfer of row sums, its payload restated. -/
theorem wait_rows (j : Ck) (l : List (Fin 10)) (hl : ∀ i ∈ l, lvC j < lvC (some (.inr i))) {s : DmaSem sig}
    {a b : Memref sig .tc .vmem S1024x128 .bf16} {hsrc : a.view.WordExact} {hdst : b.view.WordExact}
    (hs : SemLoc.dma s = csem j) (hk : L1.view.dmaCredit = expC j) (G : sProp 𝕄) (hG : gets I j c ⊢ G)
    {k : PUnit → Prog (TpuEff nD τ sig (Elt F) Λ₀ .tc) α} :
    iprop(recs I K ∗ waitTok j c ∗ owesA c (owedL c l))
      ⊢ iprop((owesA c (owedL c l) ∗ semVal (cell j c) 0 ∗ G -∗ wpc (k ⟨⟩) Q) -∗ wpc (.op (.waitDma2 s a b hsrc hdst) k) Q) := by
  iintro H Hk
  iapply (wait_dma I K c j l hl hs ((credit_rows b).trans hk)) $$ H
  iintro ⟨HO, Hz, Hg⟩
  iapply Hk
  isplitl [HO]; · iexact HO
  isplitl [Hz]; · iexact Hz
  iapply hG; iexact Hg

/-- The wait for a slot to have left gives the lent half of it back. -/
theorem slot_back (i : Fin 10) {s : DmaSem sig}
    {a b : Memref sig .tc .vmem S1x1024x256 .bf16} {hsq hsq' : S1x1024x256.Squeezes S1024x256} {hsrc : (a.squeeze S1024x256 hsq').view.WordExact} {hdst : (b.squeeze S1024x256 hsq).view.WordExact}
    (hs : SemLoc.dma s = csem (some (.inl i))) (hk : (B1.slice R0 (fun _ => rfl)).view.dmaCredit = expC (some (.inl i)))
    (m : Memref sig .tc .vmem S1x1024x256 .bf16) (X : Vec F S1x1024x256 .bf16)
    (hG : gets I (some (.inl i)) c ⊢ owns (c : Thread nD τ) m fullShare.right X)
    {k : PUnit → Prog (TpuEff nD τ sig (Elt F) Λ₀ .tc) α} :
    iprop(recs I K ∗ waitTok (some (.inl i)) c ∗ owns (c : Thread nD τ) m fullShare.left X ∗ owesA c (owedL c []))
      ⊢ iprop((owesA c (owedL c []) ∗ semVal (cell (some (.inl i)) c) 0 ∗ owns (c : Thread nD τ) m fullShare X -∗ wpc (k ⟨⟩) Q)
        -∗ wpc (.op (.waitDma2 s (a.squeeze S1024x256 hsq') (b.squeeze S1024x256 hsq) hsrc hdst) k) Q) := by
  iintro ⟨#HR, HT, HA, HO⟩ Hk
  iapply (wait_slot c I K (some (.inl i)) [] (fun _ h => absurd h List.not_mem_nil) hs hk _ hG) $$ [HT HO]
  · isplitr; · iexact HR
    isplitl [HT]; · iexact HT
    iexact HO
  iintro ⟨HO, Hz, Hg⟩
  iapply Hk
  isplitl [HO]; · iexact HO
  isplitl [Hz]; · iexact Hz
  iapply (owns_halves (c : Thread nD τ) m fullShare X).2
  isplitl [HA]; · iexact HA
  iexact Hg

/-- The wait for row sums to have left gives the lent half of them back. -/
theorem rows_back (i : Fin 10) {s : DmaSem sig}
    {a b : Memref sig .tc .vmem S1024x128 .bf16} {hsrc : a.view.WordExact} {hdst : b.view.WordExact}
    (hs : SemLoc.dma s = csem (some (.inl i))) (hk : L1.view.dmaCredit = expC (some (.inl i)))
    (m : Memref sig .tc .vmem S1024x128 .bf16) (X : Vec F S1024x128 .bf16)
    (hG : gets I (some (.inl i)) c ⊢ owns (c : Thread nD τ) m fullShare.right X)
    {k : PUnit → Prog (TpuEff nD τ sig (Elt F) Λ₀ .tc) α} :
    iprop(recs I K ∗ waitTok (some (.inl i)) c ∗ owns (c : Thread nD τ) m fullShare.left X ∗ owesA c (owedL c []))
      ⊢ iprop((owesA c (owedL c []) ∗ semVal (cell (some (.inl i)) c) 0 ∗ owns (c : Thread nD τ) m fullShare X -∗ wpc (k ⟨⟩) Q)
        -∗ wpc (.op (.waitDma2 s a b hsrc hdst) k) Q) := by
  iintro ⟨#HR, HT, HA, HO⟩ Hk
  iapply (wait_rows c I K (some (.inl i)) [] (fun _ h => absurd h List.not_mem_nil) hs hk _ hG) $$ [HT HO]
  · isplitr; · iexact HR
    isplitl [HT]; · iexact HT
    iexact HO
  iintro ⟨HO, Hz, Hg⟩
  iapply Hk
  isplitl [HO]; · iexact HO
  isplitl [Hz]; · iexact Hz
  iapply (owns_halves (c : Thread nD τ) m fullShare X).2
  isplitl [HA]; · iexact HA
  iexact Hg

end Rules

end Cert.KernelIdeal.Run

end
-- ==== Proof.KernelIdeal.Parts1.lean ====
/-
# The first six parts of the kernel
-/
module

public import proofs.«01_k».proof.Proof.KernelIdeal.Halves

@[expose] public section

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
open Cert.Cat

local notation "𝕄" => MT nD τ sig Unit (Elt F) ℕ UU ℕ

variable (I : Dev nD → Inp F) (K : Dev nD × Ck → ℕ) (c : Dev nD)

local notation "wpc" => wp frame (wpE (defs₀ (F := F)) 𝒱₀ (c : Thread nD τ) none) Set.univ

/-- The two words that name the partners; nothing depends on them. -/
abbrev w3 : BitVec 32 := Scalar.xori (myw c) 1#32
abbrev w4 : BitVec 32 := Scalar.subi 3#32 (myw c)
/-- The barrier semaphore as the program names it. -/
abbrev barA : Sems sig S_ := SemArray.scalar (sig.barrier 0 rfl)

/-- Values that one part hands to the next. -/
abbrev y119 : FVec F S1024x1024 .f32 := k0_pay12 (q (I c)) (m74 c) w77 (m79 c) 0#32 (kc (I c) 128 inb_S1024x1024_S1024x128_0_128)
abbrev y120 : FVec F S1024x1024 .bf16 := k0_pay13 (q (I c)) (m74 c) w77 (m79 c) 0#32 (kc (I c) 128 inb_S1024x1024_S1024x128_0_128)
abbrev y145 : FVec F S1024x1024 .f32 := k0_pay16 (q (I c)) (bias c) (kc (I c) 256 inb_S1024x1024_S1024x128_0_256)
abbrev y150 : FVec F S1024x128 .bf16 := k0_pay17 (q (I c)) (bias c) (kc (I c) 256 inb_S1024x1024_S1024x128_0_256) (vc (I c) 256 inb_S1024x1024_S1024x128_0_256)
abbrev y274 : FVec F S1024x1024 .f32 := k0_pay34 (q (I c)) (bias c) (kc (I c) 896 inb_S1024x1024_S1024x128_0_896)
abbrev y279 : FVec F S1024x128 .bf16 := k0_pay35 (q (I c)) (bias c) (kc (I c) 896 inb_S1024x1024_S1024x128_0_896) (vc (I c) 896 inb_S1024x1024_S1024x128_0_896)

/-- Part 1: both signals, and the projected queries. -/
theorem part1 {Q : (Σ' (d0 : Dev nD) (v2 : BitVec 32) (v3 : BitVec 32) (v4 : BitVec 32) (v5 : Sems sig S_) (v17 : FVec F S1024x1024 .bf16) (v18 : IVec S1024x1024 32) (c64_i32 : BitVec 32) (v20 : IVec S1024x1024 32), IVec S1024x1024 1) → sProp 𝕄} :
    iprop(recs I K ∗ dutyTok ER (cell none (p1 c)) 0 false ∗ dutyTok ER (cell none (p2 c)) 0 true ∗ barPay (p1 c) false ∗ barPay (p2 c) true
        ∗ owesA c (O₀ c) ∗ owns (c : Thread nD τ) T0 fullShare (I c).x ∗ owns (c : Thread nD τ) T1 fullShare (I c).wq
        ∗ (owesA c (owedL c order) ∗ owns (c : Thread nD τ) T0 fullShare (I c).x ∗ owns (c : Thread nD τ) T1 fullShare (I c).wq
          -∗ Q ⟨c, myw c, w3 c, w4 c, barA, q (I c), iota .tc S1024x1024 32 [0] iota_S1024x1024_d0_w32, 64#32, k0_pay2, k0_pay3⟩))
      ⊢ wpc (atArgs k0_part1_skel) Q := by
  iintro ⟨#HR, Ht1, Ht2, Hp1, Hp2, HO, Hx, Hq, Hk⟩
  simp only [atArgs, k0_part1_skel, semSignalWord, semWaitWord, Prog.lift, Prog.bind_op, Prog.bind_ret, Prog.pure_eq_ret, wp_deviceId]
  iapply (signal_step I K c (p1 c) false _ (dev1 c) _ rfl (O₁ c) _ rfl) $$ [Ht1 Hp1 HO]
  · isplitr; · iexact HR
    isplitl [Ht1]; · iexact Ht1
    isplitl [Hp1]; · iexact Hp1
    iexact HO
  iintro HO
  iapply (signal_step I K c (p2 c) true _ (dev2 c) _ rfl (owedL c order) _ rfl) $$ [Ht2 Hp2 HO]
  · isplitr; · iexact HR
    isplitl [Ht2]; · iexact Ht2
    isplitl [Hp2]; · iexact Hp2
    iexact HO
  iintro HO
  iapply (load_full 𝒱₀ (c : Thread nD τ) none Set.univ) $$ Hx; iintro Hx
  iapply (load_full 𝒱₀ (c : Thread nD τ) none Set.univ) $$ Hq; iintro Hq
  refine ret_end c ⟨c, myw c, w3 c, w4 c, barA, q (I c), iota .tc S1024x1024 32 [0] iota_S1024x1024_d0_w32, 64#32, k0_pay2, k0_pay3⟩ rfl ?_
  iapply Hk
  isplitl [HO]; · iexact HO
  isplitl [Hx]; · iexact Hx
  iexact Hq

/-- Part 2: the mask's ingredients. -/
theorem part2 {Q : (Σ' (v74 : IVec S1024x1024 1) (v77 : BitVec 32) (v79 : IVec S1024x1024 32), BitVec 32) → sProp 𝕄} :
    Q ⟨m74 c, w77, m79 c, 0#32⟩
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part2_skel a0 h0 a1 h1 a2 h2 a3 h3 a4 h4 a5 h5 a6 h6 a7 h7 a8 h8 a9 h9 a10 h10 a11 h11 a12 h12 a13 h13 a14 a15 a16 a17 a18 a19
            (myw c) (iota .tc S1024x1024 32 [0] iota_S1024x1024_d0_w32) 64#32 k0_pay2 k0_pay3)) Q := by
  simp only [k0_part2_skel, Prog.pure_eq_ret]
  exact ret_step (α := Σ' (v74 : IVec S1024x1024 1) (v77 : BitVec 32) (v79 : IVec S1024x1024 32), BitVec 32) c ⟨m74 c, w77, m79 c, 0#32⟩ rfl

/-- Part 3: the first head's context, and the second's weights. -/
theorem part3 {Q : (Σ' (v97 : FVec F S1024x1024 .f32) (v113 : FVec F S1024x1 .f32) (v119 : FVec F S1024x1024 .f32), FVec F S1024x1024 .bf16) → sProp 𝕄} :
    iprop(owns (c : Thread nD τ) T2 fullShare (I c).k ∗ owns (c : Thread nD τ) T3 fullShare (I c).v ∗ ownsAny (c : Thread nD τ) (B0.slice R0 (fun _ => rfl))
        ∗ (owns (c : Thread nD τ) T2 fullShare (I c).k ∗ owns (c : Thread nD τ) T3 fullShare (I c).v ∗ half c (B0.slice R0 (fun _ => rfl)) (h0 (I c) c)
          -∗ Q ⟨bias c, r0 (I c) c, y119 I c, y120 I c⟩))
      ⊢ wpc (atArgs k0_part3_skel (q (I c)) (m74 c) w77 (m79 c) 0#32) Q := by
  iintro ⟨HK, HV, HB, Hk⟩
  simp only [atArgs, k0_part3_skel, Prog.lift, Prog.bind_op, Prog.bind_ret, Prog.pure_eq_ret]
  iapply (load_sub 𝒱₀ (c : Thread nD τ) none Set.univ) $$ HK; iintro HK
  iapply (load_sub 𝒱₀ (c : Thread nD τ) none Set.univ) $$ HV; iintro HV
  iapply (load_first c) $$ HB; iintro HB
  iapply (store_first c) $$ HB; iintro HB
  iapply (load_sub 𝒱₀ (c : Thread nD τ) none Set.univ) $$ HK; iintro HK
  refine ret_end c ⟨bias c, r0 (I c) c, y119 I c, y120 I c⟩ rfl ?_
  iapply Hk
  isplitl [HK]; · iexact HK
  isplitl [HV]; · iexact HV
  iexact HB

/-- Part 4: the first chunk is complete, the barrier is passed, and the chunk is sent. -/
theorem part4 (v3 : BitVec 32) {Q : (Σ' (v129 : FVec F S1024x1 .f32) (v145 : FVec F S1024x1024 .f32), FVec F S1024x128 .bf16) → sProp 𝕄} :
    iprop(recs I K ∗ owns (c : Thread nD τ) T2 fullShare (I c).k ∗ owns (c : Thread nD τ) T3 fullShare (I c).v ∗ half c (B0.slice R0 (fun _ => rfl)) (h0 (I c) c) ∗ waitTok none c ∗ lnkTok c 0 ∗ owesA c (owedL c order)
        ∗ (owns (c : Thread nD τ) T2 fullShare (I c).k ∗ owns (c : Thread nD τ) T3 fullShare (I c).v ∗ owns (c : Thread nD τ) (B0.slice R0 (fun _ => rfl)) fullShare.left (cs0 I c) ∗ waitTok (some (.inl 0)) c ∗ owesA c (owedL c [1, 2, 4, 3, 5, 8, 6, 7, 9]) ∗ semVal (cell none c) 0 ∗ landAny 2 (peer 2 c) ∗ landAny 5 (peer 5 c) ∗ landAny 8 (peer 8 c) ∗ landAny 7 (peer 7 c) ∗ landAny 1 (peer 1 c) ∗ landAny 4 (peer 4 c) ∗ landAny 3 (peer 3 c) ∗ landAny 6 (peer 6 c) ∗ landAny 9 (peer 9 c)
          -∗ Q ⟨r1 (I c) c, y145 I c, y150 I c⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part4_skel a0 h0 a1 h1 a2 h2 a3 h3 a4 h4 a5 h5 a6 h6 a7 h7 a8 h8 a9 h9 a10 h10 a11 h11 a12 h12 a13 h13 a14 a15 a16 a17 a18 a19 c v3 barA (q (I c)) (bias c) (y119 I c) (y120 I c))) Q := by
  iintro ⟨#HR, HK, HV, HB, Hw, HT, HO, Hk⟩
  simp only [atArgs, k0_part4_skel, semSignalWord, semWaitWord, Prog.lift, Prog.bind_op, Prog.bind_ret, Prog.pure_eq_ret]
  iapply (load_sub 𝒱₀ (c : Thread nD τ) none Set.univ) $$ HV; iintro HV
  iapply (load_second c) $$ HB; iintro HB
  iapply (store_second c) $$ HB; iintro HB
  iapply (wait_step I K c none order (by decide) (wpE_semWait_eq 𝒱₀ (c : Thread nD τ) none Set.univ) rfl rfl) $$ [Hw HO]
  · isplitr; · iexact HR
    isplitl [Hw]; · iexact Hw
    iexact HO
  iintro ⟨HO, Hz, Hg⟩
  ihave Hg := (gets_bar c I) $$ Hg
  icases Hg with ⟨⟨HD, H2, H5, H8, H7⟩, H1, H4, H3, H6, H9⟩
  iapply (send_step c I K 0 [1, 2, 4, 3, 5, 8, 6, 7, 9] (dev3 c) rfl rfl rfl (BI.Entails.refl _) (BI.Entails.refl _) (BI.Entails.refl _)) $$ [HT HB HD HO]
  · isplitr; · iexact HR
    isplitl [HT]; · iexact HT
    isplitl [HB]; · iexact HB
    isplitl [HD]; · iexact HD
    iexact HO
  iintro ⟨HB, HT, HO⟩
  iapply (load_sub 𝒱₀ (c : Thread nD τ) none Set.univ) $$ HK; iintro HK
  iapply (load_sub 𝒱₀ (c : Thread nD τ) none Set.univ) $$ HV; iintro HV
  refine ret_end c ⟨r1 (I c) c, y145 I c, y150 I c⟩ rfl ?_
  iapply Hk
  isplitl [HK]; · iexact HK
  isplitl [HV]; · iexact HV
  isplitl [HB]; · iexact HB
  isplitl [HT]; · iexact HT
  isplitl [HO]; · iexact HO
  isplitl [Hz]; · iexact Hz
  isplitl [H2]; · iexact H2
  isplitl [H5]; · iexact H5
  isplitl [H8]; · iexact H8
  isplitl [H7]; · iexact H7
  isplitl [H1]; · iexact H1
  isplitl [H4]; · iexact H4
  isplitl [H3]; · iexact H3
  isplitl [H6]; · iexact H6
  iexact H9

/-- Part 5: the second chunk is computed and sent. -/
theorem part5 (v4 : BitVec 32) {Q : (Σ' (v155 : FVec F S1024x1 .f32) (v171 : FVec F S1024x1 .f32) (v182 : FVec F S1024x128 .bf16), Vec F S1024x128 .bf16) → sProp 𝕄} :
    iprop(recs I K ∗ owns (c : Thread nD τ) T2 fullShare (I c).k ∗ owns (c : Thread nD τ) T3 fullShare (I c).v ∗ ownsAny (c : Thread nD τ) (B0.slice R1 (fun _ => rfl)) ∗ lnkTok c 1 ∗ landAny 1 (peer 1 c) ∗ owesA c (owedL c [1, 2, 4, 3, 5, 8, 6, 7, 9])
        ∗ (owns (c : Thread nD τ) T2 fullShare (I c).k ∗ owns (c : Thread nD τ) T3 fullShare (I c).v ∗ owns (c : Thread nD τ) (B0.slice R1 (fun _ => rfl)) fullShare.left (cs1 I c) ∗ waitTok (some (.inl 1)) c ∗ owesA c (owedL c [2, 4, 3, 5, 8, 6, 7, 9])
          -∗ Q ⟨r2 (I c) c, r3 (I c) c, k0_pay23 (q (I c)), kc (I c) 512 inb_S1024x1024_S1024x128_0_512⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part5_skel a0 h0 a1 h1 a2 h2 a3 h3 a4 h4 a5 h5 a6 h6 a7 h7 a8 h8 a9 h9 a10 h10 a11 h11 a12 h12 a13 h13 a14 a15 a16 a17 a18 a19 c v4 (q (I c)) (bias c) (y145 I c) (y150 I c))) Q := by
  iintro ⟨#HR, HK, HV, HB, HT, HD, HO, Hk⟩
  simp only [atArgs, k0_part5_skel, semSignalWord, semWaitWord, Prog.lift, Prog.bind_op, Prog.bind_ret, Prog.pure_eq_ret]
  iapply (load_first c) $$ HB; iintro HB
  iapply (store_first c) $$ HB; iintro HB
  iapply (load_sub 𝒱₀ (c : Thread nD τ) none Set.univ) $$ HK; iintro HK
  iapply (load_sub 𝒱₀ (c : Thread nD τ) none Set.univ) $$ HV; iintro HV
  iapply (load_second c) $$ HB; iintro HB
  iapply (store_second c) $$ HB; iintro HB
  iapply (send_step c I K 1 [2, 4, 3, 5, 8, 6, 7, 9] (dev4 c) rfl rfl rfl (BI.Entails.refl _) (BI.Entails.refl _) (BI.Entails.refl _)) $$ [HT HB HD HO]
  · isplitr; · iexact HR
    isplitl [HT]; · iexact HT
    isplitl [HB]; · iexact HB
    isplitl [HD]; · iexact HD
    iexact HO
  iintro ⟨HB, HT, HO⟩
  iapply (load_sub 𝒱₀ (c : Thread nD τ) none Set.univ) $$ HK; iintro HK
  refine ret_end c ⟨r2 (I c) c, r3 (I c) c, k0_pay23 (q (I c)), kc (I c) 512 inb_S1024x1024_S1024x128_0_512⟩ rfl ?_
  iapply Hk
  isplitl [HK]; · iexact HK
  isplitl [HV]; · iexact HV
  isplitl [HB]; · iexact HB
  isplitl [HT]; · iexact HT
  iexact HO

/-- Part 6: the third chunk is computed. -/
theorem part6 (v3 : BitVec 32) {Q : (Σ' (v197 : FVec F S1024x1 .f32), FVec F S1024x1 .f32) → sProp 𝕄} :
    iprop(owns (c : Thread nD τ) T2 fullShare (I c).k ∗ owns (c : Thread nD τ) T3 fullShare (I c).v ∗ ownsAny (c : Thread nD τ) (B0.slice R2 (fun _ => rfl))
        ∗ (owns (c : Thread nD τ) T2 fullShare (I c).k ∗ owns (c : Thread nD τ) T3 fullShare (I c).v ∗ owns (c : Thread nD τ) (B0.slice R2 (fun _ => rfl)) fullShare (cs2 I c)
          -∗ Q ⟨r4 (I c) c, r5 (I c) c⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part6_skel a0 h0 a1 h1 a2 h2 a3 h3 a4 h4 a5 h5 a6 h6 a7 h7 a8 h8 a9 h9 a10 h10 a11 h11 a12 h12 a13 h13 a14 a15 a16 a17 a18 a19 v3 (q (I c)) (bias c) (k0_pay23 (q (I c))) (kc (I c) 512 inb_S1024x1024_S1024x128_0_512))) Q := by
  iintro ⟨HK, HV, HB, Hk⟩
  simp only [atArgs, k0_part6_skel, semSignalWord, semWaitWord, Prog.lift, Prog.bind_op, Prog.bind_ret, Prog.pure_eq_ret]
  iapply (load_sub 𝒱₀ (c : Thread nD τ) none Set.univ) $$ HV; iintro HV
  iapply (load_first c) $$ HB; iintro HB
  iapply (store_first c) $$ HB; iintro HB
  iapply (load_sub 𝒱₀ (c : Thread nD τ) none Set.univ) $$ HK; iintro HK
  iapply (load_sub 𝒱₀ (c : Thread nD τ) none Set.univ) $$ HV; iintro HV
  iapply (load_second c) $$ HB; iintro HB
  iapply (store_second c) $$ HB; iintro HB
  refine ret_end c ⟨r4 (I c) c, r5 (I c) c⟩ rfl ?_
  iapply Hk
  isplitl [HK]; · iexact HK
  isplitl [HV]; · iexact HV
  iexact HB

end Cert.KernelIdeal.Run

end
-- ==== Proof.KernelIdeal.Parts2.lean ====
/-
# Parts 7 to 13 of the kernel
-/
module

public import proofs.«01_k».proof.Proof.KernelIdeal.Parts1

@[expose] public section

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
open Cert.Cat

local notation "𝕄" => MT nD τ sig Unit (Elt F) ℕ UU ℕ

variable (I : Dev nD → Inp F) (K : Dev nD × Ck → ℕ) (c : Dev nD)

local notation "wpc" => wp frame (wpE (defs₀ (F := F)) 𝒱₀ (c : Thread nD τ) none) Set.univ

/-- Part 7: the third chunk is sent, the first partner's first chunk arrives and is added. -/
theorem part7 (v3 v4 : BitVec 32) {Q : PUnit → sProp 𝕄} :
    iprop(recs I K ∗ owns (c : Thread nD τ) (B0.slice R2 (fun _ => rfl)) fullShare (cs2 I c) ∗ lnkTok c 2 ∗ landAny 2 (peer 2 c) ∗ owns (c : Thread nD τ) (B0.slice R0 (fun _ => rfl)) fullShare.left (cs0 I c) ∗ ownsAny (c : Thread nD τ) (B2.slice R0 (fun _ => rfl)) ∗ waitTok (some (.inr 0)) c ∗ owesA c (owedL c [2, 4, 3, 5, 8, 6, 7, 9])
        ∗ (owns (c : Thread nD τ) (B0.slice R2 (fun _ => rfl)) fullShare.left (cs2 I c) ∗ waitTok (some (.inl 2)) c ∗ owns (c : Thread nD τ) (B0.slice R0 (fun _ => rfl)) fullShare.left (cs0 I c) ∗ owns (c : Thread nD τ) (B1.slice R0 (fun _ => rfl)) fullShare (cs0 I (p1 c)) ∗ owns (c : Thread nD τ) (B2.slice R0 (fun _ => rfl)) fullShare (sm0 I c) ∗ semVal (cell (some (.inr 0)) c) 0 ∗ owesA c (owedL c [4, 3, 5, 8, 6, 7, 9])
          -∗ Q ⟨⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part7_skel a0 h0 a1 h1 a2 h2 a3 h3 a4 h4 a5 h5 a6 h6 a7 h7 a8 h8 a9 h9 a10 h10 a11 h11 a12 h12 a13 h13 a14 a15 a16 a17 a18 a19 c v3 v4)) Q := by
  iintro ⟨#HR, HB, HT, HD, HA, HC, Hw, HO, Hk⟩
  simp only [atArgs, k0_part7_skel, semSignalWord, semWaitWord, Prog.lift, Prog.bind_op, Prog.bind_ret, Prog.pure_eq_ret]
  iapply (send_step c I K 2 [4, 3, 5, 8, 6, 7, 9] (dev5 c) rfl rfl rfl (BI.Entails.refl _) (BI.Entails.refl _) (BI.Entails.refl _)) $$ [HT HB HD HO]
  · isplitr; · iexact HR
    isplitl [HT]; · iexact HT
    isplitl [HB]; · iexact HB
    isplitl [HD]; · iexact HD
    iexact HO
  iintro ⟨HB, HT, HO⟩
  iapply (wait_slot c I K (some (.inr 0)) [4, 3, 5, 8, 6, 7, 9] (by decide) rfl rfl
    (owns (c : Thread nD τ) (B1.slice R0 (fun _ => rfl)) fullShare (cs0 I (p1 c)))
    (BI.Entails.refl _)) $$ [Hw HO]
  · isplitr; · iexact HR
    isplitl [Hw]; · iexact Hw
    iexact HO
  iintro ⟨HO, Hz, Hg⟩
  iapply (load_slice 𝒱₀ (c : Thread nD τ) none Set.univ) $$ HA; iintro HA
  iapply (load_slice 𝒱₀ (c : Thread nD τ) none Set.univ) $$ Hg; iintro Hg
  iapply (load_slice_any 𝒱₀ (c : Thread nD τ) none Set.univ) $$ HC; iintro HC
  iapply (store_slice 𝒱₀ (c : Thread nD τ) none Set.univ) $$ HC; iintro HC
  refine ret_end c ⟨⟩ rfl ?_
  iapply Hk
  isplitl [HB]; · iexact HB
  isplitl [HT]; · iexact HT
  isplitl [HA]; · iexact HA
  isplitl [Hg]; · iexact Hg
  isplitl [HC]; · iexact HC
  isplitl [Hz]; · iexact Hz
  iexact HO

/-- Part 8: the first sum is sent, and the last chunk is computed but for its second half. -/
theorem part8 {Q : (Σ' (v268 : FVec F S1024x1 .f32) (v274 : FVec F S1024x1024 .f32) (v279 : FVec F S1024x128 .bf16), Vec F S1x1024x128 .bf16) → sProp 𝕄} :
    iprop(recs I K ∗ owns (c : Thread nD τ) T2 fullShare (I c).k ∗ owns (c : Thread nD τ) T3 fullShare (I c).v ∗ owns (c : Thread nD τ) (B2.slice R0 (fun _ => rfl)) fullShare (sm0 I c) ∗ lnkTok c 4 ∗ landAny 4 (peer 4 c) ∗ ownsAny (c : Thread nD τ) (B0.slice R3 (fun _ => rfl)) ∗ owesA c (owedL c [4, 3, 5, 8, 6, 7, 9])
        ∗ (∀ v, owns (c : Thread nD τ) T2 fullShare (I c).k ∗ owns (c : Thread nD τ) T3 fullShare (I c).v ∗ owns (c : Thread nD τ) (B2.slice R0 (fun _ => rfl)) fullShare.left (sm0 I c) ∗ waitTok (some (.inl 4)) c ∗ half c (B0.slice R3 (fun _ => rfl)) (h6 (I c) c) ∗ owesA c (owedL c [3, 5, 8, 6, 7, 9])
          -∗ Q ⟨r6 (I c) c, y274 I c, y279 I c, v⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part8_skel a0 h0 a1 h1 a2 h2 a3 h3 a4 h4 a5 h5 a6 h6 a7 h7 a8 h8 a9 h9 a10 h10 a11 h11 a12 h12 a13 h13 a14 a15 a16 a17 a18 a19 c (q (I c)) (bias c))) Q := by
  iintro ⟨#HR, HK, HV, HC, HT, HD, HB, HO, Hk⟩
  simp only [atArgs, k0_part8_skel, semSignalWord, semWaitWord, Prog.lift, Prog.bind_op, Prog.bind_ret, Prog.pure_eq_ret]
  iapply (send_step c I K 4 [3, 5, 8, 6, 7, 9] (dev6 c) rfl rfl rfl (BI.Entails.refl _) (BI.Entails.refl _) (BI.Entails.refl _)) $$ [HT HC HD HO]
  · isplitr; · iexact HR
    isplitl [HT]; · iexact HT
    isplitl [HC]; · iexact HC
    isplitl [HD]; · iexact HD
    iexact HO
  iintro ⟨HC, HT, HO⟩
  iapply (load_sub 𝒱₀ (c : Thread nD τ) none Set.univ) $$ HK; iintro HK
  iapply (load_sub 𝒱₀ (c : Thread nD τ) none Set.univ) $$ HV; iintro HV
  iapply (load_first c) $$ HB; iintro HB
  iapply (store_first c) $$ HB; iintro HB
  iapply (load_sub 𝒱₀ (c : Thread nD τ) none Set.univ) $$ HK; iintro HK
  iapply (load_sub 𝒱₀ (c : Thread nD τ) none Set.univ) $$ HV; iintro HV
  unfold half
  icases HB with ⟨%X, HB⟩
  iapply (load_part_at 𝒱₀ (c : Thread nD τ) none Set.univ (half_subset 3 128 le_rfl inb_S4x1024x256_S1x1024x128_3_0_128 inb_S4x1024x256_S1x1024x256_3_0_0)) $$ HB; iintro %v HB
  refine ret_end c ⟨r6 (I c) c, y274 I c, y279 I c, v⟩ rfl ?_
  iapply Hk
  isplitl [HK]; · iexact HK
  isplitl [HV]; · iexact HV
  isplitl [HC]; · iexact HC
  isplitl [HT]; · iexact HT
  isplitl [HB]; · iexists X; iexact HB
  iexact HO

/-- Part 9: the last chunk is complete and sent, and the second partner's chunk arrives. -/
theorem part9 (v4 : BitVec 32) (v280 : Vec F S1x1024x128 .bf16) {Q : (Σ' (v284 : FVec F S1024x1 .f32), FVec F S1024x256 .bf16) → sProp 𝕄} :
    iprop(recs I K ∗ half c (B0.slice R3 (fun _ => rfl)) (h6 (I c) c) ∗ lnkTok c 3 ∗ landAny 3 (peer 3 c) ∗ owns (c : Thread nD τ) (B0.slice R1 (fun _ => rfl)) fullShare.left (cs1 I c) ∗ waitTok (some (.inr 1)) c ∗ owesA c (owedL c [3, 5, 8, 6, 7, 9])
        ∗ (owns (c : Thread nD τ) (B0.slice R3 (fun _ => rfl)) fullShare.left (cs3 I c) ∗ waitTok (some (.inl 3)) c ∗ owns (c : Thread nD τ) (B0.slice R1 (fun _ => rfl)) fullShare.left (cs1 I c) ∗ owns (c : Thread nD τ) (B1.slice R1 (fun _ => rfl)) fullShare (cs1 I (p2 c)) ∗ semVal (cell (some (.inr 1)) c) 0 ∗ owesA c (owedL c [5, 8, 6, 7, 9])
          -∗ Q ⟨r7 (I c) c, k0_pay38 (cs1 I c) (cs1 I (p2 c))⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part9_skel a0 h0 a1 h1 a2 h2 a3 h3 a4 h4 a5 h5 a6 h6 a7 h7 a8 h8 a9 h9 a10 h10 a11 h11 a12 h12 a13 h13 a14 a15 a16 a17 a18 a19 c v4 (y274 I c) (y279 I c) v280)) Q := by
  iintro ⟨#HR, HB, HT, HD, HA, Hw, HO, Hk⟩
  simp only [atArgs, k0_part9_skel, semSignalWord, semWaitWord, Prog.lift, Prog.bind_op, Prog.bind_ret, Prog.pure_eq_ret]
  iapply (store_second c) $$ HB; iintro HB
  iapply (send_step c I K 3 [5, 8, 6, 7, 9] (dev7 c) rfl rfl rfl (BI.Entails.refl _) (BI.Entails.refl _) (BI.Entails.refl _)) $$ [HT HB HD HO]
  · isplitr; · iexact HR
    isplitl [HT]; · iexact HT
    isplitl [HB]; · iexact HB
    isplitl [HD]; · iexact HD
    iexact HO
  iintro ⟨HB, HT, HO⟩
  iapply (wait_slot c I K (some (.inr 1)) [5, 8, 6, 7, 9] (by decide) rfl rfl
    (owns (c : Thread nD τ) (B1.slice R1 (fun _ => rfl)) fullShare (cs1 I (p2 c)))
    (BI.Entails.refl _)) $$ [Hw HO]
  · isplitr; · iexact HR
    isplitl [Hw]; · iexact Hw
    iexact HO
  iintro ⟨HO, Hz, Hg⟩
  iapply (load_slice 𝒱₀ (c : Thread nD τ) none Set.univ) $$ HA; iintro HA
  iapply (load_slice 𝒱₀ (c : Thread nD τ) none Set.univ) $$ Hg; iintro Hg
  refine ret_end c ⟨r7 (I c) c, k0_pay38 (cs1 I c) (cs1 I (p2 c))⟩ rfl ?_
  iapply Hk
  isplitl [HB]; · iexact HB
  isplitl [HT]; · iexact HT
  isplitl [HA]; · iexact HA
  isplitl [Hg]; · iexact Hg
  isplitl [Hz]; · iexact Hz
  iexact HO

/-- Part 10: the second sum and the row sums are sent. -/
theorem part10 (v3 : BitVec 32) {Q : PUnit → sProp 𝕄} :
    iprop(recs I K ∗ ownsAny (c : Thread nD τ) (B2.slice R1 (fun _ => rfl)) ∗ lnkTok c 5 ∗ landAny 5 (peer 5 c) ∗ ownsAny (c : Thread nD τ) L0 ∗ lnkTok c 8 ∗ landAny 8 (peer 8 c) ∗ owesA c (owedL c [5, 8, 6, 7, 9])
        ∗ (owns (c : Thread nD τ) (B2.slice R1 (fun _ => rfl)) fullShare.left (sm1 I c) ∗ waitTok (some (.inl 5)) c ∗ owns (c : Thread nD τ) L0 fullShare.left (ls I c) ∗ waitTok (some (.inl 8)) c ∗ owesA c (owedL c [6, 7, 9])
          -∗ Q ⟨⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part10_skel a0 h0 a1 h1 a2 h2 a3 h3 a4 h4 a5 h5 a6 h6 a7 h7 a8 h8 a9 h9 a10 h10 a11 h11 a12 h12 a13 h13 a14 a15 a16 a17 a18 a19 c v3 (r0 (I c) c) (r1 (I c) c) (r2 (I c) c) (r3 (I c) c) (r4 (I c) c) (r5 (I c) c) (r6 (I c) c) (r7 (I c) c) (k0_pay38 (cs1 I c) (cs1 I (p2 c))))) Q := by
  iintro ⟨#HR, HC, HT, HD, HL, HT2, HD2, HO, Hk⟩
  simp only [atArgs, k0_part10_skel, semSignalWord, semWaitWord, Prog.lift, Prog.bind_op, Prog.bind_ret, Prog.pure_eq_ret]
  iapply (load_slice_any 𝒱₀ (c : Thread nD τ) none Set.univ) $$ HC; iintro HC
  iapply (store_slice 𝒱₀ (c : Thread nD τ) none Set.univ) $$ HC; iintro HC
  iapply (send_step c I K 5 [8, 6, 7, 9] (dev8 c) rfl rfl rfl (BI.Entails.refl _) (BI.Entails.refl _) (BI.Entails.refl _)) $$ [HT HC HD HO]
  · isplitr; · iexact HR
    isplitl [HT]; · iexact HT
    isplitl [HC]; · iexact HC
    isplitl [HD]; · iexact HD
    iexact HO
  iintro ⟨HC, HT, HO⟩
  iapply (load_any 𝒱₀ (c : Thread nD τ) none Set.univ) $$ HL; iintro HL
  iapply (store_full 𝒱₀ (c : Thread nD τ) none Set.univ) $$ HL; iintro HL
  iapply (send_step' c I K 8 [6, 7, 9] (dev9 c) rfl rfl rfl (BI.Entails.refl _) (BI.Entails.refl _) (BI.Entails.refl _)) $$ [HT2 HL HD2 HO]
  · isplitr; · iexact HR
    isplitl [HT2]; · iexact HT2
    isplitl [HL]; · iexact HL
    isplitl [HD2]; · iexact HD2
    iexact HO
  iintro ⟨HL, HT2, HO⟩
  refine ret_end c ⟨⟩ rfl ?_
  iapply Hk
  isplitl [HC]; · iexact HC
  isplitl [HT]; · iexact HT
  isplitl [HL]; · iexact HL
  isplitl [HT2]; · iexact HT2
  iexact HO

/-- Part 11: the first partner's third chunk arrives, and the third sum is sent. -/
theorem part11 (v4 : BitVec 32) {Q : PUnit → sProp 𝕄} :
    iprop(recs I K ∗ owns (c : Thread nD τ) (B0.slice R2 (fun _ => rfl)) fullShare.left (cs2 I c) ∗ waitTok (some (.inr 2)) c ∗ ownsAny (c : Thread nD τ) (B2.slice R2 (fun _ => rfl)) ∗ lnkTok c 6 ∗ landAny 6 (peer 6 c) ∗ owesA c (owedL c [6, 7, 9])
        ∗ (owns (c : Thread nD τ) (B0.slice R2 (fun _ => rfl)) fullShare.left (cs2 I c) ∗ semVal (cell (some (.inr 2)) c) 0 ∗ owns (c : Thread nD τ) (B1.slice R2 (fun _ => rfl)) fullShare (cs2 I (p1 c)) ∗ owns (c : Thread nD τ) (B2.slice R2 (fun _ => rfl)) fullShare.left (sm2 I c) ∗ waitTok (some (.inl 6)) c ∗ owesA c (owedL c [7, 9])
          -∗ Q ⟨⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part11_skel a0 h0 a1 h1 a2 h2 a3 h3 a4 h4 a5 h5 a6 h6 a7 h7 a8 h8 a9 h9 a10 h10 a11 h11 a12 h12 a13 h13 a14 a15 a16 a17 a18 a19 c v4)) Q := by
  iintro ⟨#HR, HA, Hw, HC, HT, HD, HO, Hk⟩
  simp only [atArgs, k0_part11_skel, semSignalWord, semWaitWord, Prog.lift, Prog.bind_op, Prog.bind_ret, Prog.pure_eq_ret]
  iapply (wait_slot c I K (some (.inr 2)) [6, 7, 9] (by decide) rfl rfl
    (owns (c : Thread nD τ) (B1.slice R2 (fun _ => rfl)) fullShare (cs2 I (p1 c)))
    (BI.Entails.refl _)) $$ [Hw HO]
  · isplitr; · iexact HR
    isplitl [Hw]; · iexact Hw
    iexact HO
  iintro ⟨HO, Hz, Hg⟩
  iapply (load_slice 𝒱₀ (c : Thread nD τ) none Set.univ) $$ HA; iintro HA
  iapply (load_slice 𝒱₀ (c : Thread nD τ) none Set.univ) $$ Hg; iintro Hg
  iapply (load_slice_any 𝒱₀ (c : Thread nD τ) none Set.univ) $$ HC; iintro HC
  iapply (store_slice 𝒱₀ (c : Thread nD τ) none Set.univ) $$ HC; iintro HC
  iapply (send_step c I K 6 [7, 9] (dev10 c) rfl rfl rfl (BI.Entails.refl _) (BI.Entails.refl _) (BI.Entails.refl _)) $$ [HT HC HD HO]
  · isplitr; · iexact HR
    isplitl [HT]; · iexact HT
    isplitl [HC]; · iexact HC
    isplitl [HD]; · iexact HD
    iexact HO
  iintro ⟨HC, HT, HO⟩
  refine ret_end c ⟨⟩ rfl ?_
  iapply Hk
  isplitl [HA]; · iexact HA
  isplitl [Hz]; · iexact Hz
  isplitl [Hg]; · iexact Hg
  isplitl [HC]; · iexact HC
  isplitl [HT]; · iexact HT
  iexact HO

/-- Part 12: the second partner's last chunk arrives, the last sum is sent, and the partner's row sums arrive. -/
theorem part12 (v3 : BitVec 32) {Q : PUnit → sProp 𝕄} :
    iprop(recs I K ∗ owns (c : Thread nD τ) (B0.slice R3 (fun _ => rfl)) fullShare.left (cs3 I c) ∗ waitTok (some (.inr 3)) c ∗ ownsAny (c : Thread nD τ) (B2.slice R3 (fun _ => rfl)) ∗ lnkTok c 7 ∗ landAny 7 (peer 7 c) ∗ waitTok (some (.inr 8)) c ∗ owesA c (owedL c [7, 9])
        ∗ (owns (c : Thread nD τ) (B0.slice R3 (fun _ => rfl)) fullShare.left (cs3 I c) ∗ semVal (cell (some (.inr 3)) c) 0 ∗ owns (c : Thread nD τ) (B1.slice R3 (fun _ => rfl)) fullShare (cs3 I (p2 c)) ∗ owns (c : Thread nD τ) (B2.slice R3 (fun _ => rfl)) fullShare.left (sm3 I c) ∗ waitTok (some (.inl 7)) c ∗ semVal (cell (some (.inr 8)) c) 0 ∗ owns (c : Thread nD τ) L1 fullShare (ls I (p1 c)) ∗ owesA c (owedL c [9])
          -∗ Q ⟨⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part12_skel a0 h0 a1 h1 a2 h2 a3 h3 a4 h4 a5 h5 a6 h6 a7 h7 a8 h8 a9 h9 a10 h10 a11 h11 a12 h12 a13 h13 a14 a15 a16 a17 a18 a19 c v3)) Q := by
  iintro ⟨#HR, HA, Hw, HC, HT, HD, Hw2, HO, Hk⟩
  simp only [atArgs, k0_part12_skel, semSignalWord, semWaitWord, Prog.lift, Prog.bind_op, Prog.bind_ret, Prog.pure_eq_ret]
  iapply (wait_slot c I K (some (.inr 3)) [7, 9] (by decide) rfl rfl
    (owns (c : Thread nD τ) (B1.slice R3 (fun _ => rfl)) fullShare (cs3 I (p2 c)))
    (BI.Entails.refl _)) $$ [Hw HO]
  · isplitr; · iexact HR
    isplitl [Hw]; · iexact Hw
    iexact HO
  iintro ⟨HO, Hz, Hg⟩
  iapply (load_slice 𝒱₀ (c : Thread nD τ) none Set.univ) $$ HA; iintro HA
  iapply (load_slice 𝒱₀ (c : Thread nD τ) none Set.univ) $$ Hg; iintro Hg
  iapply (load_slice_any 𝒱₀ (c : Thread nD τ) none Set.univ) $$ HC; iintro HC
  iapply (store_slice 𝒱₀ (c : Thread nD τ) none Set.univ) $$ HC; iintro HC
  iapply (send_step c I K 7 [9] (dev11 c) rfl rfl rfl (BI.Entails.refl _) (BI.Entails.refl _) (BI.Entails.refl _)) $$ [HT HC HD HO]
  · isplitr; · iexact HR
    isplitl [HT]; · iexact HT
    isplitl [HC]; · iexact HC
    isplitl [HD]; · iexact HD
    iexact HO
  iintro ⟨HC, HT, HO⟩
  iapply (wait_rows c I K (some (.inr 8)) [9] (by decide) rfl rfl
    (owns (c : Thread nD τ) L1 fullShare (ls I (p1 c)))
    (BI.Entails.refl _)) $$ [Hw2 HO]
  · isplitr; · iexact HR
    isplitl [Hw2]; · iexact Hw2
    iexact HO
  iintro ⟨HO, Hz2, Hg2⟩
  refine ret_end c ⟨⟩ rfl ?_
  iapply Hk
  isplitl [HA]; · iexact HA
  isplitl [Hz]; · iexact Hz
  isplitl [Hg]; · iexact Hg
  isplitl [HC]; · iexact HC
  isplitl [HT]; · iexact HT
  isplitl [Hz2]; · iexact Hz2
  isplitl [Hg2]; · iexact Hg2
  iexact HO

/-- Part 13: the row sums are added and exchanged with the second partner. -/
theorem part13 (v4 : BitVec 32) {Q : (Σ' (v421 : FVec F S1024x128 .f32), FVec F S1024x1024 .bf16) → sProp 𝕄} :
    iprop(recs I K ∗ owns (c : Thread nD τ) L0 fullShare.left (ls I c) ∗ owns (c : Thread nD τ) L1 fullShare (ls I (p1 c)) ∗ ownsAny (c : Thread nD τ) L2 ∗ lnkTok c 9 ∗ landAny 9 (peer 9 c) ∗ waitTok (some (.inr 9)) c ∗ owns (c : Thread nD τ) T4 fullShare (I c).wo ∗ owesA c (owedL c [9])
        ∗ (owns (c : Thread nD τ) L0 fullShare.left (ls I c) ∗ owns (c : Thread nD τ) L1 fullShare (ls I (p1 c)) ∗ owns (c : Thread nD τ) L2 fullShare.left (lt I c) ∗ waitTok (some (.inl 9)) c ∗ semVal (cell (some (.inr 9)) c) 0 ∗ owns (c : Thread nD τ) L3 fullShare (lt I (p2 c)) ∗ owns (c : Thread nD τ) T4 fullShare (I c).wo ∗ owesA c (owedL c [])
          -∗ Q ⟨tot I c, wo I c⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part13_skel a0 h0 a1 h1 a2 h2 a3 h3 a4 h4 a5 h5 a6 h6 a7 h7 a8 h8 a9 h9 a10 h10 a11 h11 a12 h12 a13 h13 a14 a15 a16 a17 a18 a19 c v4)) Q := by
  iintro ⟨#HR, HA, HB, HL, HT, HD, Hw, HW, HO, Hk⟩
  simp only [atArgs, k0_part13_skel, semSignalWord, semWaitWord, Prog.lift, Prog.bind_op, Prog.bind_ret, Prog.pure_eq_ret]
  iapply (load_full 𝒱₀ (c : Thread nD τ) none Set.univ) $$ HA; iintro HA
  iapply (load_full 𝒱₀ (c : Thread nD τ) none Set.univ) $$ HB; iintro HB
  iapply (load_any 𝒱₀ (c : Thread nD τ) none Set.univ) $$ HL; iintro HL
  iapply (store_full 𝒱₀ (c : Thread nD τ) none Set.univ) $$ HL; iintro HL
  iapply (send_step' c I K 9 [] (dev12 c) rfl rfl rfl (BI.Entails.refl _) (BI.Entails.refl _) (BI.Entails.refl _)) $$ [HT HL HD HO]
  · isplitr; · iexact HR
    isplitl [HT]; · iexact HT
    isplitl [HL]; · iexact HL
    isplitl [HD]; · iexact HD
    iexact HO
  iintro ⟨HL, HT, HO⟩
  iapply (wait_rows c I K (some (.inr 9)) [] (by decide) rfl rfl
    (owns (c : Thread nD τ) L3 fullShare (lt I (p2 c)))
    (BI.Entails.refl _)) $$ [Hw HO]
  · isplitr; · iexact HR
    isplitl [Hw]; · iexact Hw
    iexact HO
  iintro ⟨HO, Hz, Hg⟩
  iapply (load_full 𝒱₀ (c : Thread nD τ) none Set.univ) $$ HL; iintro HL
  iapply (load_full 𝒱₀ (c : Thread nD τ) none Set.univ) $$ Hg; iintro Hg
  iapply (load_full 𝒱₀ (c : Thread nD τ) none Set.univ) $$ HW; iintro HW
  refine ret_end c ⟨tot I c, wo I c⟩ rfl ?_
  iapply Hk
  isplitl [HA]; · iexact HA
  isplitl [HB]; · iexact HB
  isplitl [HL]; · iexact HL
  isplitl [HT]; · iexact HT
  isplitl [Hz]; · iexact Hz
  isplitl [Hg]; · iexact Hg
  isplitl [HW]; · iexact HW
  iexact HO

end Cert.KernelIdeal.Run

end
-- ==== Proof.KernelIdeal.Parts3.lean ====
/-
# Parts 14 to 18 of the kernel
-/
module

public import proofs.«01_k».proof.Proof.KernelIdeal.Halves

@[expose] public section

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
open Cert.Cat

local notation "𝕄" => MT nD τ sig Unit (Elt F) ℕ UU ℕ

variable (I : Dev nD → Inp F) (K : Dev nD × Ck → ℕ) (c : Dev nD)

local notation "wpc" => wp frame (wpE (defs₀ (F := F)) 𝒱₀ (c : Thread nD τ) none) Set.univ

/-- Part 14: the sums' second halves of chunk 0 and 1 arrive. -/
theorem part14 (v3 : BitVec 32) {Q : (Σ' (v450 : FVec F S1024x1024 .f32), FVec F S1024x256 .f32) → sProp 𝕄} :
    iprop(recs I K ∗ owns (c : Thread nD τ) (B2.slice R0 (fun _ => rfl)) fullShare.left (sm0 I c) ∗ waitTok (some (.inr 4)) c ∗ owns (c : Thread nD τ) (B2.slice R1 (fun _ => rfl)) fullShare.left (sm1 I c) ∗ waitTok (some (.inr 5)) c ∗ owesA c (owedL c [])
        ∗ (owns (c : Thread nD τ) (B2.slice R0 (fun _ => rfl)) fullShare.left (sm0 I c) ∗ semVal (cell (some (.inr 4)) c) 0 ∗ owns (c : Thread nD τ) (B3.slice R0 (fun _ => rfl)) fullShare (sm0 I (p2 c)) ∗ owns (c : Thread nD τ) (B2.slice R1 (fun _ => rfl)) fullShare.left (sm1 I c) ∗ semVal (cell (some (.inr 5)) c) 0 ∗ owns (c : Thread nD τ) (B3.slice R1 (fun _ => rfl)) fullShare (sm1 I (p1 c)) ∗ owesA c (owedL c [])
          -∗ Q ⟨acc0 I c, k0_pay47 (sm1 I c)⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part14_skel a0 h0 a1 h1 a2 h2 a3 h3 a4 h4 a5 h5 a6 h6 a7 h7 a8 h8 a9 h9 a10 h10 a11 h11 a12 h12 a13 h13 a14 a15 a16 a17 a18 a19 v3 (tot I c) (wo I c))) Q := by
  iintro ⟨#HR, HA, Hw, HB, Hw2, HO, Hk⟩
  simp only [atArgs, k0_part14_skel, semSignalWord, semWaitWord, Prog.lift, Prog.bind_op, Prog.bind_ret, Prog.pure_eq_ret]
  iapply (wait_slot c I K (some (.inr 4)) [] (by decide) rfl rfl
    (owns (c : Thread nD τ) (B3.slice R0 (fun _ => rfl)) fullShare (sm0 I (p2 c)))
    (BI.Entails.refl _)) $$ [Hw HO]
  · isplitr; · iexact HR
    isplitl [Hw]; · iexact Hw
    iexact HO
  iintro ⟨HO, Hz, Hg⟩
  iapply (load_slice 𝒱₀ (c : Thread nD τ) none Set.univ) $$ HA; iintro HA
  iapply (load_slice 𝒱₀ (c : Thread nD τ) none Set.univ) $$ Hg; iintro Hg
  iapply (wait_slot c I K (some (.inr 5)) [] (by decide) rfl rfl
    (owns (c : Thread nD τ) (B3.slice R1 (fun _ => rfl)) fullShare (sm1 I (p1 c)))
    (BI.Entails.refl _)) $$ [Hw2 HO]
  · isplitr; · iexact HR
    isplitl [Hw2]; · iexact Hw2
    iexact HO
  iintro ⟨HO, Hz2, Hg2⟩
  iapply (load_slice 𝒱₀ (c : Thread nD τ) none Set.univ) $$ HB; iintro HB
  refine ret_end c ⟨acc0 I c, k0_pay47 (sm1 I c)⟩ rfl ?_
  iapply Hk
  isplitl [HA]; · iexact HA
  isplitl [Hz]; · iexact Hz
  isplitl [Hg]; · iexact Hg
  isplitl [HB]; · iexact HB
  isplitl [Hz2]; · iexact Hz2
  isplitl [Hg2]; · iexact Hg2
  iexact HO

/-- Part 15: chunk 1 is accumulated, and the third sum arrives. -/
theorem part15 (v4 : BitVec 32) {Q : (Σ' (v478 : FVec F S1024x1024 .f32) (v497 : FVec F S1024x128 .f32), FVec F S1024x128 .f32) → sProp 𝕄} :
    iprop(recs I K ∗ owns (c : Thread nD τ) (B3.slice R1 (fun _ => rfl)) fullShare (sm1 I (p1 c)) ∗ owns (c : Thread nD τ) (B2.slice R2 (fun _ => rfl)) fullShare.left (sm2 I c) ∗ waitTok (some (.inr 6)) c ∗ owesA c (owedL c [])
        ∗ (owns (c : Thread nD τ) (B3.slice R1 (fun _ => rfl)) fullShare (sm1 I (p1 c)) ∗ owns (c : Thread nD τ) (B2.slice R2 (fun _ => rfl)) fullShare.left (sm2 I c) ∗ semVal (cell (some (.inr 6)) c) 0 ∗ owns (c : Thread nD τ) (B3.slice R2 (fun _ => rfl)) fullShare (sm2 I (p2 c)) ∗ owesA c (owedL c [])
          -∗ Q ⟨acc1 I c, k0_pay50 (tot I c) (sm2 I c) (sm2 I (p2 c)), k0_pay51 (tot I c) (sm2 I c) (sm2 I (p2 c))⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part15_skel a0 h0 a1 h1 a2 h2 a3 h3 a4 h4 a5 h5 a6 h6 a7 h7 a8 h8 a9 h9 a10 h10 a11 h11 a12 h12 a13 h13 a14 a15 a16 a17 a18 a19 v4 (tot I c) (wo I c) (acc0 I c) (k0_pay47 (sm1 I c)))) Q := by
  iintro ⟨#HR, HB, HA, Hw, HO, Hk⟩
  simp only [atArgs, k0_part15_skel, semSignalWord, semWaitWord, Prog.lift, Prog.bind_op, Prog.bind_ret, Prog.pure_eq_ret]
  iapply (load_slice 𝒱₀ (c : Thread nD τ) none Set.univ) $$ HB; iintro HB
  iapply (wait_slot c I K (some (.inr 6)) [] (by decide) rfl rfl
    (owns (c : Thread nD τ) (B3.slice R2 (fun _ => rfl)) fullShare (sm2 I (p2 c)))
    (BI.Entails.refl _)) $$ [Hw HO]
  · isplitr; · iexact HR
    isplitl [Hw]; · iexact Hw
    iexact HO
  iintro ⟨HO, Hz, Hg⟩
  iapply (load_slice 𝒱₀ (c : Thread nD τ) none Set.univ) $$ HA; iintro HA
  iapply (load_slice 𝒱₀ (c : Thread nD τ) none Set.univ) $$ Hg; iintro Hg
  refine ret_end c ⟨acc1 I c, k0_pay50 (tot I c) (sm2 I c) (sm2 I (p2 c)), k0_pay51 (tot I c) (sm2 I c) (sm2 I (p2 c))⟩ rfl ?_
  iapply Hk
  isplitl [HB]; · iexact HB
  isplitl [HA]; · iexact HA
  isplitl [Hz]; · iexact Hz
  isplitl [Hg]; · iexact Hg
  iexact HO

/-- Part 16: the last sum arrives, and the result is stored. -/
theorem part16 (v3 : BitVec 32) {Q : PUnit → sProp 𝕄} :
    iprop(recs I K ∗ owns (c : Thread nD τ) (B2.slice R3 (fun _ => rfl)) fullShare.left (sm3 I c) ∗ waitTok (some (.inr 7)) c ∗ ownsAny (c : Thread nD τ) T5 ∗ owesA c (owedL c [])
        ∗ (owns (c : Thread nD τ) (B2.slice R3 (fun _ => rfl)) fullShare.left (sm3 I c) ∗ semVal (cell (some (.inr 7)) c) 0 ∗ owns (c : Thread nD τ) (B3.slice R3 (fun _ => rfl)) fullShare (sm3 I (p1 c)) ∗ owns (c : Thread nD τ) T5 fullShare (out I c) ∗ owesA c (owedL c [])
          -∗ Q ⟨⟩))
      ⊢ wpc (atArgs (fun a0 h0 a1 h1 a2 h2 a3 h3 a4 h4 a5 h5 a6 h6 a7 h7 a8 h8 a9 h9 a10 h10 a11 h11 a12 h12 a13 h13 a14 a15 a16 a17 a18 a19 =>
          k0_part16_skel a0 h0 a1 h1 a2 h2 a3 h3 a4 h4 a5 h5 a6 h6 a7 h7 a8 h8 a9 h9 a10 h10 a11 h11 a12 h12 a13 h13 a14 a15 a16 a17 a18 a19 v3 (tot I c) (wo I c) (acc1 I c) (k0_pay50 (tot I c) (sm2 I c) (sm2 I (p2 c))) (k0_pay51 (tot I c) (sm2 I c) (sm2 I (p2 c))))) Q := by
  iintro ⟨#HR, HA, Hw, HT, HO, Hk⟩
  simp only [atArgs, k0_part16_skel, semSignalWord, semWaitWord, Prog.lift, Prog.bind_op, Prog.bind_ret, Prog.pure_eq_ret]
  iapply (wait_slot c I K (some (.inr 7)) [] (by decide) rfl rfl
    (owns (c : Thread nD τ) (B3.slice R3 (fun _ => rfl)) fullShare (sm3 I (p1 c)))
    (BI.Entails.refl _)) $$ [Hw HO]
  · isplitr; · iexact HR
    isplitl [Hw]; · iexact Hw
    iexact HO
  iintro ⟨HO, Hz, Hg⟩
  iapply (load_slice 𝒱₀ (c : Thread nD τ) none Set.univ) $$ HA; iintro HA
  iapply (load_slice 𝒱₀ (c : Thread nD τ) none Set.univ) $$ Hg; iintro Hg
  iapply (load_any 𝒱₀ (c : Thread nD τ) none Set.univ) $$ HT; iintro HT
  iapply (store_full 𝒱₀ (c : Thread nD τ) none Set.univ) $$ HT; iintro HT
  refine ret_end c ⟨⟩ rfl ?_
  iapply Hk
  isplitl [HA]; · iexact HA
  isplitl [Hz]; · iexact Hz
  isplitl [Hg]; · iexact Hg
  isplitl [HT]; · iexact HT
  iexact HO

/-- Part 17: the first three chunks have left. -/
theorem part17 {Q : PUnit → sProp 𝕄} :
    iprop(recs I K ∗ waitTok (some (.inl 0)) c ∗ owns (c : Thread nD τ) (B0.slice R0 (fun _ => rfl)) fullShare.left (cs0 I c) ∗ waitTok (some (.inl 1)) c ∗ owns (c : Thread nD τ) (B0.slice R1 (fun _ => rfl)) fullShare.left (cs1 I c) ∗ waitTok (some (.inl 2)) c ∗ owns (c : Thread nD τ) (B0.slice R2 (fun _ => rfl)) fullShare.left (cs2 I c) ∗ owesA c (owedL c [])
        ∗ (semVal (cell (some (.inl 0)) c) 0 ∗ owns (c : Thread nD τ) (B0.slice R0 (fun _ => rfl)) fullShare (cs0 I c) ∗ semVal (cell (some (.inl 1)) c) 0 ∗ owns (c : Thread nD τ) (B0.slice R1 (fun _ => rfl)) fullShare (cs1 I c) ∗ semVal (cell (some (.inl 2)) c) 0 ∗ owns (c : Thread nD τ) (B0.slice R2 (fun _ => rfl)) fullShare (cs2 I c) ∗ owesA c (owedL c [])
          -∗ Q ⟨⟩))
      ⊢ wpc (atArgs k0_part17_skel) Q := by
  iintro ⟨#HR, W0, H0, W1, H1, W2, H2, HO, Hk⟩
  simp only [atArgs, k0_part17_skel, semSignalWord, semWaitWord, Prog.lift, Prog.bind_op, Prog.bind_ret, Prog.pure_eq_ret]
  iapply (slot_back c I K 0 rfl rfl (B0.slice R0 (fun _ => rfl)) (cs0 I c) (BI.Entails.refl _)) $$ [W0 H0 HO]
  · isplitr; · iexact HR
    isplitl [W0]; · iexact W0
    isplitl [H0]; · iexact H0
    iexact HO
  iintro ⟨HO, Z0, H0⟩
  iapply (slot_back c I K 1 rfl rfl (B0.slice R1 (fun _ => rfl)) (cs1 I c) (BI.Entails.refl _)) $$ [W1 H1 HO]
  · isplitr; · iexact HR
    isplitl [W1]; · iexact W1
    isplitl [H1]; · iexact H1
    iexact HO
  iintro ⟨HO, Z1, H1⟩
  iapply (slot_back c I K 2 rfl rfl (B0.slice R2 (fun _ => rfl)) (cs2 I c) (BI.Entails.refl _)) $$ [W2 H2 HO]
  · isplitr; · iexact HR
    isplitl [W2]; · iexact W2
    isplitl [H2]; · iexact H2
    iexact HO
  iintro ⟨HO, Z2, H2⟩
  refine ret_end c ⟨⟩ rfl ?_
  iapply Hk
  isplitl [Z0]; · iexact Z0
  isplitl [H0]; · iexact H0
  isplitl [Z1]; · iexact Z1
  isplitl [H1]; · iexact H1
  isplitl [Z2]; · iexact Z2
  isplitl [H2]; · iexact H2
  iexact HO

/-- Part 18: the last chunk and the first three sums have left. -/
theorem part18 {Q : PUnit → sProp 𝕄} :
    iprop(recs I K ∗ waitTok (some (.inl 3)) c ∗ owns (c : Thread nD τ) (B0.slice R3 (fun _ => rfl)) fullShare.left (cs3 I c) ∗ waitTok (some (.inl 4)) c ∗ owns (c : Thread nD τ) (B2.slice R0 (fun _ => rfl)) fullShare.left (sm0 I c) ∗ waitTok (some (.inl 5)) c ∗ owns (c : Thread nD τ) (B2.slice R1 (fun _ => rfl)) fullShare.left (sm1 I c) ∗ waitTok (some (.inl 6)) c ∗ owns (c : Thread nD τ) (B2.slice R2 (fun _ => rfl)) fullShare.left (sm2 I c) ∗ owesA c (owedL c [])
        ∗ (semVal (cell (some (.inl 3)) c) 0 ∗ owns (c : Thread nD τ) (B0.slice R3 (fun _ => rfl)) fullShare (cs3 I c) ∗ semVal (cell (some (.inl 4)) c) 0 ∗ owns (c : Thread nD τ) (B2.slice R0 (fun _ => rfl)) fullShare (sm0 I c) ∗ semVal (cell (some (.inl 5)) c) 0 ∗ owns (c : Thread nD τ) (B2.slice R1 (fun _ => rfl)) fullShare (sm1 I c) ∗ semVal (cell (some (.inl 6)) c) 0 ∗ owns (c : Thread nD τ) (B2.slice R2 (fun _ => rfl)) fullShare (sm2 I c) ∗ owesA c (owedL c [])
          -∗ Q ⟨⟩))
      ⊢ wpc (atArgs k0_part18_skel) Q := by
  iintro ⟨#HR, W3, H3, W4, H4, W5, H5, W6, H6, HO, Hk⟩
  simp only [atArgs, k0_part18_skel, semSignalWord, semWaitWord, Prog.lift, Prog.bind_op, Prog.bind_ret, Prog.pure_eq_ret]
  iapply (slot_back c I K 3 rfl rfl (B0.slice R3 (fun _ => rfl)) (cs3 I c) (BI.Entails.refl _)) $$ [W3 H3 HO]
  · isplitr; · iexact HR
    isplitl [W3]; · iexact W3
    isplitl [H3]; · iexact H3
    iexact HO
  iintro ⟨HO, Z3, H3⟩
  iapply (slot_back c I K 4 rfl rfl (B2.slice R0 (fun _ => rfl)) (sm0 I c) (BI.Entails.refl _)) $$ [W4 H4 HO]
  · isplitr; · iexact HR
    isplitl [W4]; · iexact W4
    isplitl [H4]; · iexact H4
    iexact HO
  iintro ⟨HO, Z4, H4⟩
  iapply (slot_back c I K 5 rfl rfl (B2.slice R1 (fun _ => rfl)) (sm1 I c) (BI.Entails.refl _)) $$ [W5 H5 HO]
  · isplitr; · iexact HR
    isplitl [W5]; · iexact W5
    isplitl [H5]; · iexact H5
    iexact HO
  iintro ⟨HO, Z5, H5⟩
  iapply (slot_back c I K 6 rfl rfl (B2.slice R2 (fun _ => rfl)) (sm2 I c) (BI.Entails.refl _)) $$ [W6 H6 HO]
  · isplitr; · iexact HR
    isplitl [W6]; · iexact W6
    isplitl [H6]; · iexact H6
    iexact HO
  iintro ⟨HO, Z6, H6⟩
  refine ret_end c ⟨⟩ rfl ?_
  iapply Hk
  isplitl [Z3]; · iexact Z3
  isplitl [H3]; · iexact H3
  isplitl [Z4]; · iexact Z4
  isplitl [H4]; · iexact H4
  isplitl [Z5]; · iexact Z5
  isplitl [H5]; · iexact H5
  isplitl [Z6]; · iexact Z6
  isplitl [H6]; · iexact H6
  iexact HO

end Cert.KernelIdeal.Run

end
-- ==== Proof.KernelIdeal.Body.lean ====
/-
# The whole body

The eighteen parts one after the other, then the last three waits: from what a device holds when the kernel starts to
its result in the output's buffer, every transfer's buffers at their last contents and every counter of its own at zero.
-/
module

public import proofs.«01_k».proof.Proof.KernelIdeal.Parts1
public import proofs.«01_k».proof.Proof.KernelIdeal.Parts2
public import proofs.«01_k».proof.Proof.KernelIdeal.Parts3

@[expose] public section

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
open Cert.Cat

local notation "𝕄" => MT nD τ sig Unit (Elt F) ℕ UU ℕ

variable (I : Dev nD → Inp F) (K : Dev nD × Ck → ℕ) (c : Dev nD)

/-- The exchange's share a device starts with: its barrier tokens and the destinations it hands over, its links and its waits. -/
def exStart (K : Dev nD × Ck → ℕ) : sProp 𝕄 :=
  iprop(recs I K ∗ dutyTok ER (cell none (p1 c)) 0 false ∗ dutyTok ER (cell none (p2 c)) 0 true ∗ barPay (p1 c) false ∗ barPay (p2 c) true
    ∗ waitTok none c ∗ lnkTok c 0 ∗ lnkTok c 1 ∗ lnkTok c 2 ∗ lnkTok c 3 ∗ lnkTok c 4 ∗ lnkTok c 5 ∗ lnkTok c 6 ∗ lnkTok c 7 ∗ lnkTok c 8 ∗ lnkTok c 9
    ∗ waitTok (some (.inr 0)) c ∗ waitTok (some (.inr 1)) c ∗ waitTok (some (.inr 2)) c ∗ waitTok (some (.inr 3)) c ∗ waitTok (some (.inr 4)) c ∗ waitTok (some (.inr 5)) c ∗ waitTok (some (.inr 6)) c ∗ waitTok (some (.inr 7)) c ∗ waitTok (some (.inr 8)) c ∗ waitTok (some (.inr 9)) c)

/-- The staging buffers at the start, the output's at anything. -/
def stagesIn : sProp 𝕄 := iprop(owns (c : Thread nD τ) (T0) fullShare ((I c).x) ∗ owns (c : Thread nD τ) (T1) fullShare ((I c).wq) ∗ owns (c : Thread nD τ) (T2) fullShare ((I c).k) ∗ owns (c : Thread nD τ) (T3) fullShare ((I c).v) ∗ owns (c : Thread nD τ) (T4) fullShare ((I c).wo) ∗ ownsAny (c : Thread nD τ) T5)

/-- The buffers the device computes into, at anything. -/
def bufsIn : sProp 𝕄 := iprop(ownsAny (c : Thread nD τ) (B0.slice R0 (fun _ => rfl)) ∗ ownsAny (c : Thread nD τ) (B0.slice R1 (fun _ => rfl)) ∗ ownsAny (c : Thread nD τ) (B0.slice R2 (fun _ => rfl)) ∗ ownsAny (c : Thread nD τ) (B0.slice R3 (fun _ => rfl)) ∗ ownsAny (c : Thread nD τ) (B2.slice R0 (fun _ => rfl)) ∗ ownsAny (c : Thread nD τ) (B2.slice R1 (fun _ => rfl)) ∗ ownsAny (c : Thread nD τ) (B2.slice R2 (fun _ => rfl)) ∗ ownsAny (c : Thread nD τ) (B2.slice R3 (fun _ => rfl)) ∗ ownsAny (c : Thread nD τ) L0 ∗ ownsAny (c : Thread nD τ) L2)

/-- The staging buffers at the end. -/
def stagesOut : sProp 𝕄 := iprop(owns (c : Thread nD τ) (T0) fullShare ((I c).x) ∗ owns (c : Thread nD τ) (T1) fullShare ((I c).wq) ∗ owns (c : Thread nD τ) (T2) fullShare ((I c).k) ∗ owns (c : Thread nD τ) (T3) fullShare ((I c).v) ∗ owns (c : Thread nD τ) (T4) fullShare ((I c).wo) ∗ owns (c : Thread nD τ) (T5) fullShare (out I c))

/-- The exchange's buffers at the end. -/
def bufsOut : sProp 𝕄 := iprop(owns (c : Thread nD τ) (B0.slice R0 (fun _ => rfl)) fullShare (cs0 I c) ∗ owns (c : Thread nD τ) (B0.slice R1 (fun _ => rfl)) fullShare (cs1 I c) ∗ owns (c : Thread nD τ) (B0.slice R2 (fun _ => rfl)) fullShare (cs2 I c) ∗ owns (c : Thread nD τ) (B0.slice R3 (fun _ => rfl)) fullShare (cs3 I c) ∗ owns (c : Thread nD τ) (B1.slice R0 (fun _ => rfl)) fullShare (cs0 I (p1 c)) ∗ owns (c : Thread nD τ) (B1.slice R1 (fun _ => rfl)) fullShare (cs1 I (p2 c)) ∗ owns (c : Thread nD τ) (B1.slice R2 (fun _ => rfl)) fullShare (cs2 I (p1 c)) ∗ owns (c : Thread nD τ) (B1.slice R3 (fun _ => rfl)) fullShare (cs3 I (p2 c)) ∗ owns (c : Thread nD τ) (B2.slice R0 (fun _ => rfl)) fullShare (sm0 I c) ∗ owns (c : Thread nD τ) (B2.slice R1 (fun _ => rfl)) fullShare (sm1 I c) ∗ owns (c : Thread nD τ) (B2.slice R2 (fun _ => rfl)) fullShare (sm2 I c) ∗ owns (c : Thread nD τ) (B2.slice R3 (fun _ => rfl)) fullShare (sm3 I c) ∗ owns (c : Thread nD τ) (B3.slice R0 (fun _ => rfl)) fullShare (sm0 I (p2 c)) ∗ owns (c : Thread nD τ) (B3.slice R1 (fun _ => rfl)) fullShare (sm1 I (p1 c)) ∗ owns (c : Thread nD τ) (B3.slice R2 (fun _ => rfl)) fullShare (sm2 I (p2 c)) ∗ owns (c : Thread nD τ) (B3.slice R3 (fun _ => rfl)) fullShare (sm3 I (p1 c)) ∗ owns (c : Thread nD τ) (L0) fullShare (ls I c) ∗ owns (c : Thread nD τ) (L1) fullShare (ls I (p1 c)) ∗ owns (c : Thread nD τ) (L2) fullShare (lt I c) ∗ owns (c : Thread nD τ) (L3) fullShare (lt I (p2 c)))

/-- Every counter of the exchange at zero. -/
def zeros : sProp 𝕄 := iprop(semVal (cell none c) 0 ∗ semVal (cell (some (.inl 0)) c) 0 ∗ semVal (cell (some (.inl 1)) c) 0 ∗ semVal (cell (some (.inl 2)) c) 0 ∗ semVal (cell (some (.inl 3)) c) 0 ∗ semVal (cell (some (.inl 4)) c) 0 ∗ semVal (cell (some (.inl 5)) c) 0 ∗ semVal (cell (some (.inl 6)) c) 0 ∗ semVal (cell (some (.inl 7)) c) 0 ∗ semVal (cell (some (.inl 8)) c) 0 ∗ semVal (cell (some (.inl 9)) c) 0 ∗ semVal (cell (some (.inr 0)) c) 0 ∗ semVal (cell (some (.inr 1)) c) 0 ∗ semVal (cell (some (.inr 2)) c) 0 ∗ semVal (cell (some (.inr 3)) c) 0 ∗ semVal (cell (some (.inr 4)) c) 0 ∗ semVal (cell (some (.inr 5)) c) 0 ∗ semVal (cell (some (.inr 6)) c) 0 ∗ semVal (cell (some (.inr 7)) c) 0 ∗ semVal (cell (some (.inr 8)) c) 0 ∗ semVal (cell (some (.inr 9)) c) 0)

local notation "wpc" => wp frame (wpE (defs₀ (F := F)) 𝒱₀ (c : Thread nD τ) none) Set.univ

set_option maxHeartbeats 4000000 in
/-- The body at the launch's operands. -/
theorem body_run {Q : PUnit → sProp (MT nD τ sig Unit (Elt F) ℕ UU ℕ)} :
    iprop(exStart I c K ∗ owesA c (O₀ c) ∗ stagesIn I c ∗ bufsIn c
        ∗ (zeros c ∗ owesA c (owedL c []) ∗ stagesOut I c ∗ bufsOut I c -∗ Q ⟨⟩))
      ⊢ wpc (atArgs cc0_body) Q := by
  unfold exStart stagesIn bufsIn stagesOut bufsOut zeros
  rw [cc0_body_eq_skeleton]
  unfold atArgs cc0_body_skel
  iintro ⟨⟨#HR, Ht1, Ht2, Hp1, Hp2, Wn, K0, K1, K2, K3, K4, K5, K6, K7, K8, K9, Wr0, Wr1, Wr2, Wr3, Wr4, Wr5, Wr6, Wr7, Wr8, Wr9⟩, HO, ⟨T0, T1, T2, T3, T4, T5⟩, ⟨B0R0, B0R1, B0R2, B0R3, B2R0, B2R1, B2R2, B2R3, L0, L2⟩, Hk⟩
  rw [wp_bind, k0_part1_eq_skeleton]
  iapply (part1 I K c)
  isplitr; · iexact HR
  isplitl [Ht1]; · iexact Ht1
  isplitl [Ht2]; · iexact Ht2
  isplitl [Hp1]; · iexact Hp1
  isplitl [Hp2]; · iexact Hp2
  isplitl [HO]; · iexact HO
  isplitl [T0]; · iexact T0
  isplitl [T1]; · iexact T1
  iintro ⟨HO, T0, T1⟩
  dsimp only
  rw [wp_bind, k0_part2_eq_skeleton]
  iapply (part2 c)
  dsimp only
  rw [wp_bind, k0_part3_eq_skeleton]
  iapply (part3 I c)
  isplitl [T2]; · iexact T2
  isplitl [T3]; · iexact T3
  isplitl [B0R0]; · iexact B0R0
  iintro ⟨T2, T3, B0R0⟩
  dsimp only
  rw [wp_bind, k0_part4_eq_skeleton]
  iapply (part4 I K c (w3 c))
  isplitr; · iexact HR
  isplitl [T2]; · iexact T2
  isplitl [T3]; · iexact T3
  isplitl [B0R0]; · iexact B0R0
  isplitl [Wn]; · iexact Wn
  isplitl [K0]; · iexact K0
  isplitl [HO]; · iexact HO
  iintro ⟨T2, T3, B0R0, Ws0, HO, Zn, D2, D5, D8, D7, D1, D4, D3, D6, D9⟩
  dsimp only
  rw [wp_bind, k0_part5_eq_skeleton]
  iapply (part5 I K c (w4 c))
  isplitr; · iexact HR
  isplitl [T2]; · iexact T2
  isplitl [T3]; · iexact T3
  isplitl [B0R1]; · iexact B0R1
  isplitl [K1]; · iexact K1
  isplitl [D1]; · iexact D1
  isplitl [HO]; · iexact HO
  iintro ⟨T2, T3, B0R1, Ws1, HO⟩
  dsimp only
  rw [wp_bind, k0_part6_eq_skeleton]
  iapply (part6 I c (w3 c))
  isplitl [T2]; · iexact T2
  isplitl [T3]; · iexact T3
  isplitl [B0R2]; · iexact B0R2
  iintro ⟨T2, T3, B0R2⟩
  dsimp only
  rw [wp_bind, k0_part7_eq_skeleton]
  iapply (part7 I K c (w3 c) (w4 c))
  isplitr; · iexact HR
  isplitl [B0R2]; · iexact B0R2
  isplitl [K2]; · iexact K2
  isplitl [D2]; · iexact D2
  isplitl [B0R0]; · iexact B0R0
  isplitl [B2R0]; · iexact B2R0
  isplitl [Wr0]; · iexact Wr0
  isplitl [HO]; · iexact HO
  iintro ⟨B0R2, Ws2, B0R0, B1R0, B2R0, Zr0, HO⟩
  rw [wp_bind, k0_part8_eq_skeleton]
  iapply (part8 I K c)
  isplitr; · iexact HR
  isplitl [T2]; · iexact T2
  isplitl [T3]; · iexact T3
  isplitl [B2R0]; · iexact B2R0
  isplitl [K4]; · iexact K4
  isplitl [D4]; · iexact D4
  isplitl [B0R3]; · iexact B0R3
  isplitl [HO]; · iexact HO
  iintro %v
  iintro ⟨T2, T3, B2R0, Ws4, B0R3, HO⟩
  dsimp only
  rw [wp_bind, k0_part9_eq_skeleton]
  iapply (part9 I K c (w4 c) v)
  isplitr; · iexact HR
  isplitl [B0R3]; · iexact B0R3
  isplitl [K3]; · iexact K3
  isplitl [D3]; · iexact D3
  isplitl [B0R1]; · iexact B0R1
  isplitl [Wr1]; · iexact Wr1
  isplitl [HO]; · iexact HO
  iintro ⟨B0R3, Ws3, B0R1, B1R1, Zr1, HO⟩
  dsimp only
  rw [wp_bind, k0_part10_eq_skeleton]
  iapply (part10 I K c (w3 c))
  isplitr; · iexact HR
  isplitl [B2R1]; · iexact B2R1
  isplitl [K5]; · iexact K5
  isplitl [D5]; · iexact D5
  isplitl [L0]; · iexact L0
  isplitl [K8]; · iexact K8
  isplitl [D8]; · iexact D8
  isplitl [HO]; · iexact HO
  iintro ⟨B2R1, Ws5, L0, Ws8, HO⟩
  rw [wp_bind, k0_part11_eq_skeleton]
  iapply (part11 I K c (w4 c))
  isplitr; · iexact HR
  isplitl [B0R2]; · iexact B0R2
  isplitl [Wr2]; · iexact Wr2
  isplitl [B2R2]; · iexact B2R2
  isplitl [K6]; · iexact K6
  isplitl [D6]; · iexact D6
  isplitl [HO]; · iexact HO
  iintro ⟨B0R2, Zr2, B1R2, B2R2, Ws6, HO⟩
  rw [wp_bind, k0_part12_eq_skeleton]
  iapply (part12 I K c (w3 c))
  isplitr; · iexact HR
  isplitl [B0R3]; · iexact B0R3
  isplitl [Wr3]; · iexact Wr3
  isplitl [B2R3]; · iexact B2R3
  isplitl [K7]; · iexact K7
  isplitl [D7]; · iexact D7
  isplitl [Wr8]; · iexact Wr8
  isplitl [HO]; · iexact HO
  iintro ⟨B0R3, Zr3, B1R3, B2R3, Ws7, Zr8, L1, HO⟩
  rw [wp_bind, k0_part13_eq_skeleton]
  iapply (part13 I K c (w4 c))
  isplitr; · iexact HR
  isplitl [L0]; · iexact L0
  isplitl [L1]; · iexact L1
  isplitl [L2]; · iexact L2
  isplitl [K9]; · iexact K9
  isplitl [D9]; · iexact D9
  isplitl [Wr9]; · iexact Wr9
  isplitl [T4]; · iexact T4
  isplitl [HO]; · iexact HO
  iintro ⟨L0, L1, L2, Ws9, Zr9, L3, T4, HO⟩
  dsimp only
  rw [wp_bind, k0_part14_eq_skeleton]
  iapply (part14 I K c (w3 c))
  isplitr; · iexact HR
  isplitl [B2R0]; · iexact B2R0
  isplitl [Wr4]; · iexact Wr4
  isplitl [B2R1]; · iexact B2R1
  isplitl [Wr5]; · iexact Wr5
  isplitl [HO]; · iexact HO
  iintro ⟨B2R0, Zr4, B3R0, B2R1, Zr5, B3R1, HO⟩
  dsimp only
  rw [wp_bind, k0_part15_eq_skeleton]
  iapply (part15 I K c (w4 c))
  isplitr; · iexact HR
  isplitl [B3R1]; · iexact B3R1
  isplitl [B2R2]; · iexact B2R2
  isplitl [Wr6]; · iexact Wr6
  isplitl [HO]; · iexact HO
  iintro ⟨B3R1, B2R2, Zr6, B3R2, HO⟩
  dsimp only
  rw [wp_bind, k0_part16_eq_skeleton]
  iapply (part16 I K c (w3 c))
  isplitr; · iexact HR
  isplitl [B2R3]; · iexact B2R3
  isplitl [Wr7]; · iexact Wr7
  isplitl [T5]; · iexact T5
  isplitl [HO]; · iexact HO
  iintro ⟨B2R3, Zr7, B3R3, T5, HO⟩
  rw [wp_bind, k0_part17_eq_skeleton]
  iapply (part17 I K c)
  isplitr; · iexact HR
  isplitl [Ws0]; · iexact Ws0
  isplitl [B0R0]; · iexact B0R0
  isplitl [Ws1]; · iexact Ws1
  isplitl [B0R1]; · iexact B0R1
  isplitl [Ws2]; · iexact Ws2
  isplitl [B0R2]; · iexact B0R2
  isplitl [HO]; · iexact HO
  iintro ⟨Zs0, B0R0, Zs1, B0R1, Zs2, B0R2, HO⟩
  rw [wp_bind, k0_part18_eq_skeleton]
  iapply (part18 I K c)
  isplitr; · iexact HR
  isplitl [Ws3]; · iexact Ws3
  isplitl [B0R3]; · iexact B0R3
  isplitl [Ws4]; · iexact Ws4
  isplitl [B2R0]; · iexact B2R0
  isplitl [Ws5]; · iexact Ws5
  isplitl [B2R1]; · iexact B2R1
  isplitl [Ws6]; · iexact Ws6
  isplitl [B2R2]; · iexact B2R2
  isplitl [HO]; · iexact HO
  iintro ⟨Zs3, B0R3, Zs4, B2R0, Zs5, B2R1, Zs6, B2R2, HO⟩
  simp only [Prog.lift, Prog.bind_op, Prog.bind_ret, Prog.pure_eq_ret]
  iapply (slot_back c I K 7 rfl rfl (B2.slice R3 (fun _ => rfl)) (sm3 I c) (BI.Entails.refl _)) $$ [Ws7 B2R3 HO]
  · isplitr; · iexact HR
    isplitl [Ws7]; · iexact Ws7
    isplitl [B2R3]; · iexact B2R3
    iexact HO
  iintro ⟨HO, Zs7, B2R3⟩
  iapply (rows_back c I K 8 rfl rfl (L0) (ls I c) (BI.Entails.refl _)) $$ [Ws8 L0 HO]
  · isplitr; · iexact HR
    isplitl [Ws8]; · iexact Ws8
    isplitl [L0]; · iexact L0
    iexact HO
  iintro ⟨HO, Zs8, L0⟩
  iapply (rows_back c I K 9 rfl rfl (L2) (lt I c) (BI.Entails.refl _)) $$ [Ws9 L2 HO]
  · isplitr; · iexact HR
    isplitl [Ws9]; · iexact Ws9
    isplitl [L2]; · iexact L2
    iexact HO
  iintro ⟨HO, Zs9, L2⟩
  refine ret_end c ⟨⟩ rfl ?_
  iapply Hk
  isplitl [Zn Zs0 Zs1 Zs2 Zs3 Zs4 Zs5 Zs6 Zs7 Zs8 Zs9 Zr0 Zr1 Zr2 Zr3 Zr4 Zr5 Zr6 Zr7 Zr8 Zr9]
  · isplitl [Zn]; · iexact Zn
    isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    isplitl [Zs7]; · iexact Zs7
    isplitl [Zs8]; · iexact Zs8
    isplitl [Zs9]; · iexact Zs9
    isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    isplitl [Zr6]; · iexact Zr6
    isplitl [Zr7]; · iexact Zr7
    isplitl [Zr8]; · iexact Zr8
    iexact Zr9
  isplitl [HO]; · iexact HO
  isplitl [T0 T1 T2 T3 T4 T5]
  · isplitl [T0]; · iexact T0
    isplitl [T1]; · iexact T1
    isplitl [T2]; · iexact T2
    isplitl [T3]; · iexact T3
    isplitl [T4]; · iexact T4
    iexact T5
  · isplitl [B0R0]; · iexact B0R0
    isplitl [B0R1]; · iexact B0R1
    isplitl [B0R2]; · iexact B0R2
    isplitl [B0R3]; · iexact B0R3
    isplitl [B1R0]; · iexact B1R0
    isplitl [B1R1]; · iexact B1R1
    isplitl [B1R2]; · iexact B1R2
    isplitl [B1R3]; · iexact B1R3
    isplitl [B2R0]; · iexact B2R0
    isplitl [B2R1]; · iexact B2R1
    isplitl [B2R2]; · iexact B2R2
    isplitl [B2R3]; · iexact B2R3
    isplitl [B3R0]; · iexact B3R0
    isplitl [B3R1]; · iexact B3R1
    isplitl [B3R2]; · iexact B3R2
    isplitl [B3R3]; · iexact B3R3
    isplitl [L0]; · iexact L0
    isplitl [L1]; · iexact L1
    isplitl [L2]; · iexact L2
    iexact L3

end Cert.KernelIdeal.Run

end
-- ==== Proof.KernelIdeal.Slots.lean ====
/-
# The four slots of a chunk buffer

A chunk buffer held whole is its four slots, and the four slots, whatever each holds, are the buffer held whole.
-/
module

public import proofs.«01_k».proof.Proof.KernelIdeal.Protocol

@[expose] public section

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ UU ℕ

/-- The slots as a family. -/
def slotR (t : Fin 4) : Rect S4x1024x256 :=
  Rect.unit (s := S4x1024x256) ![t.val, 0, 0] S1x1024x256.size (fun a => by
    have := t.isLt
    match a with
    | 0 => show t.val + 1 ≤ 4; omega
    | 1 => show 0 + 1024 ≤ 1024; omega
    | 2 => show 0 + 256 ≤ 256; omega)

theorem slotR_disjoint (t t' : Fin 4) (h : t ≠ t') : Disjoint (slotR t).set (slotR t').set := by
  refine Rect.unit_disjoint (0 : Fin 3) ?_
  show t.val + 1 ≤ t'.val ∨ t'.val + 1 ≤ t.val
  have : t.val ≠ t'.val := fun e => h (Fin.ext e)
  omega

theorem slotR_cover : (Finset.univ : Finset (Fin 4)).biUnion (fun t => (slotR t).set) = Finset.univ := by
  ext i
  simp only [Finset.mem_biUnion, Finset.mem_univ, true_and, iff_true]
  refine ⟨⟨(i 0).val, (i 0).isLt⟩, ?_⟩
  rw [slotR, Rect.mem_set_unit]
  intro a
  match a with
  | 0 => show (i 0).val ≤ (i 0).val ∧ (i 0).val < (i 0).val + 1; omega
  | 1 => exact ⟨Nat.zero_le _, by have := (i 1).isLt; show (i 1).val < 0 + 1024; exact (Nat.zero_add 1024).symm ▸ this⟩
  | 2 => exact ⟨Nat.zero_le _, by have := (i 2).isLt; show (i 2).val < 0 + 256; exact (Nat.zero_add 256).symm ▸ this⟩

theorem bigSep_fin_four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

variable (c : Dev nD)

/-- A whole buffer at some contents. -/
def bufAny (b : Ref sig .tc) : sProp 𝕄 := iprop(∃ f : Buf (Elt F) ((c : Thread nD τ).loc b), ((c : Thread nD τ).loc b) ↦{fullShare} f)

/-- A buffer's memref at some contents is the buffer at some contents. -/
theorem bufAny_eq (b : Ref sig .tc) : (bufAny c b : sProp 𝕄) = ownsAny (c : Thread nD τ) (Memref.whole b) := by
  unfold bufAny ownsAny
  have h1 : (iprop(∃ f : Buf (Elt F) ((c : Thread nD τ).loc b), ((c : Thread nD τ).loc b) ↦{fullShare} f) : sProp 𝕄)
      ⊢ iprop(∃ X, owns (c : Thread nD τ) (Memref.whole b) fullShare X) := by
    unfold owns
    simp only [Memref.view_whole, View.read_whole, View.set_whole]
    iintro ⟨%f, H⟩
    iexists f, f
    isplitr; · ipureintro; rfl
    iexact H
  have h2 : (iprop(∃ X, owns (c : Thread nD τ) (Memref.whole b) fullShare X) : sProp 𝕄)
      ⊢ iprop(∃ f : Buf (Elt F) ((c : Thread nD τ).loc b), ((c : Thread nD τ).loc b) ↦{fullShare} f) := by
    unfold owns
    simp only [Memref.view_whole, View.read_whole, View.set_whole]
    iintro ⟨%X, %f, -, H⟩
    iexists f
    iexact H
  exact BI.Entails.antisymm h1 h2

variable (m : Memref sig .tc .vmem S4x1024x256 .bf16)

/-- The four slots of a chunk buffer at some contents. -/
def slotsAny : sProp 𝕄 := iprop(ownsAny (c : Thread nD τ) (m.slice R0 (fun _ => rfl)) ∗ ownsAny (c : Thread nD τ) (m.slice R1 (fun _ => rfl))
  ∗ ownsAny (c : Thread nD τ) (m.slice R2 (fun _ => rfl)) ∗ ownsAny (c : Thread nD τ) (m.slice R3 (fun _ => rfl)))

theorem slots_split : (ownsAny (c : Thread nD τ) m : sProp 𝕄) ⊢ slotsAny c m := by
  have h := fun X => BIBase.Entails.trans
    (owns_rects (Ix := Unit) (Name := ℕ) (U := UU) (Lvl := ℕ) (Val := Elt F) (c : Thread nD τ) m fullShare slotR (fun t a => rfl) slotR_disjoint slotR_cover X)
    (Entails.of_eq (bigSep_fin_four _))
  unfold ownsAny
  iintro ⟨%X, H⟩
  ihave H := (h X) $$ H
  icases H with ⟨H0, H1, H2, H3⟩
  unfold slotsAny
  isplitl [H0]; · iapply (ownsAny_intro (c : Thread nD τ) (m.slice R0 (fun _ => rfl)) _); iexact H0
  isplitl [H1]; · iapply (ownsAny_intro (c : Thread nD τ) (m.slice R1 (fun _ => rfl)) _); iexact H1
  isplitl [H2]; · iapply (ownsAny_intro (c : Thread nD τ) (m.slice R2 (fun _ => rfl)) _); iexact H2
  iapply (ownsAny_intro (c : Thread nD τ) (m.slice R3 (fun _ => rfl)) _); iexact H3

theorem slots_join [∀ e, Nonempty (Elt F e)] : (slotsAny c m : sProp 𝕄) ⊢ ownsAny (c : Thread nD τ) m := by
  unfold slotsAny ownsAny owns
  iintro ⟨⟨%X0, %f0, -, H0⟩, ⟨%X1, %f1, -, H1⟩, ⟨%X2, %f2, -, H2⟩, ⟨%X3, %f3, -, H3⟩⟩
  have hj := pointsTo_biUnion_join (nD := nD) (τ := τ) (sig := sig) (Ix := Unit) (Name := ℕ) (U := UU) (Lvl := ℕ) (Val := Elt F) (ℓ := m.view.loc (c : Thread nD τ)) (q := fullShare) (Finset.univ : Finset (Fin 4)) (fun t => (m.view.slice (slotR t)).set)
    (fun | 0 => f0 | 1 => f1 | 2 => f2 | 3 => f3) f0 (fun t _ t' _ h => by
      rw [View.set_slice, View.set_slice]; exact (Finset.disjoint_map _).mpr (slotR_disjoint t t' h))
  rw [bigSep_fin_four] at hj
  have hset : m.view.set = (Finset.univ : Finset (Fin 4)).biUnion fun t => (m.view.slice (slotR t)).set := by
    ext i; constructor
    · intro hi
      rw [View.set, Finset.mem_map] at hi
      obtain ⟨x, -, rfl⟩ := hi
      obtain ⟨t, -, hx⟩ := Finset.mem_biUnion.mp (slotR_cover.symm ▸ Finset.mem_univ x)
      exact Finset.mem_biUnion.mpr ⟨t, Finset.mem_univ _, by rw [View.set_slice]; exact Finset.mem_map_of_mem _ hx⟩
    · intro hi
      obtain ⟨t, -, hi⟩ := Finset.mem_biUnion.mp hi
      exact View.set_slice_subset _ _ hi
  rw [← hset] at hj
  ihave H := hj $$ [H0 H1 H2 H3]
  · isplitl [H0]; · iexact H0
    isplitl [H1]; · iexact H1
    isplitl [H2]; · iexact H2
    iexact H3
  icases H with ⟨%g, -, H⟩
  iexists _, g
  isplitr; · ipureintro; rfl
  iexact H

end Cert.KernelIdeal.Run

end
-- ==== Proof.KernelIdeal.Ghost.lean ====
/-
# The launch: the exchange's cells and tokens, dealt to the devices

Every cell's invariant is allocated at the start. The barrier cells have their counters then; the transfers' semaphores
belong to the kernel alone, so their cells stay closed until the kernel starts and its device opens them. A device gets
the tokens of the duties it pays: its two partners' barrier duties, and for each link its own send cell's and the peer's
receive cell's.
-/
module

public import proofs.«01_k».proof.Proof.KernelIdeal.Body
public import proofs.«01_k».proof.Proof.KernelIdeal.Slots
public import Idealize.ShloMosaic.Lib.Pipeline.Regions
public import Idealize.ShloMosaic.Lib.Pipeline.RegionTalk
public import Idealize.ShloMosaic.Harness.Basic

@[expose] public section

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)

variable {F : FTy → Type} [FloatOps F] [Named F]
local notation "𝕄" => MT nD τ sig Unit (Elt F) ℕ UU ℕ

/-! ## Cells and tokens -/

/-- The transfers' semaphores, the kernel's own. -/
abbrev osem (k : Fin 10 ⊕ Fin 10) : SemLoc sig := csem (some k)

def barEmb : Dev nD ↪ GSem nD τ sig := ⟨fun c => cell none c, fun _ _ h => congrArg (fun g : GSem nD τ sig => g.1.1) h⟩
def ownEmb : Dev nD × (Fin 10 ⊕ Fin 10) ↪ GSem nD τ sig :=
  ⟨fun p => cell (some p.2) p.1, fun p p' h => by
    have := cell_injective (a₁ := (p.1, some p.2)) (a₂ := (p'.1, some p'.2)) h
    exact Prod.ext (congrArg (fun q : Dev nD × Ck => q.1) this) (Option.some.inj (congrArg (fun q : Dev nD × Ck => q.2) this))⟩

abbrev barCells : Finset (GSem nD τ sig) := Finset.univ.map barEmb
abbrev ownCells : Finset (GSem nD τ sig) := Finset.univ.map ownEmb

/-- A cell's duties: two at the barrier, one at a transfer's semaphore. -/
def duty : Bool ⊕ (Fin 10 ⊕ Fin 10) → Ck × Bool := fun
  | .inl b => (none, b)
  | .inr k => (some k, false)
theorem duty_injective : Function.Injective duty := by decide

def dutyEmb : Dev nD × (Bool ⊕ (Fin 10 ⊕ Fin 10)) ↪ GSem nD τ sig × ℕ × Bool :=
  ⟨fun p => (cell (duty p.2).1 p.1, 0, (duty p.2).2), fun p p' h => by
    have h1 := cell_injective (a₁ := (p.1, (duty p.2).1)) (a₂ := (p'.1, (duty p'.2).1)) (congrArg (fun x => x.1) h)
    have h2 : (duty p.2).2 = (duty p'.2).2 := congrArg (fun x => x.2.2) h
    exact Prod.ext (congrArg (fun q : Dev nD × Ck => q.1) h1)
      (duty_injective (Prod.ext (congrArg (fun q : Dev nD × Ck => q.2) h1) h2))⟩
abbrev duties : Finset (GSem nD τ sig × ℕ × Bool) := Finset.univ.map dutyEmb

theorem disjoint_cells : Disjoint (barCells : Finset (GSem nD τ sig)) ownCells := by
  rw [Finset.disjoint_left]
  intro g h1 h2
  obtain ⟨c, -, rfl⟩ := Finset.mem_map.mp h1
  obtain ⟨p, -, h⟩ := Finset.mem_map.mp h2
  have := cell_injective (a₁ := (p.1, some p.2)) (a₂ := (c, none)) h
  exact absurd (congrArg (fun q : Dev nD × Ck => q.2) this) (Option.some_ne_none _)

theorem cell_mem (p : Dev nD × Ck) : cell p.2 p.1 ∈ (barCells ∪ ownCells : Finset (GSem nD τ sig)) := by
  obtain ⟨c, j⟩ := p
  match j with
  | none => exact Finset.mem_union_left _ (Finset.mem_map_of_mem barEmb (Finset.mem_univ c))
  | some k => exact Finset.mem_union_right _ (Finset.mem_map_of_mem ownEmb (Finset.mem_univ (c, k)))

/-! ## What a device holds before and after it opens its cells -/

variable (I : Dev nD → Inp F)

/-- The records every device may consult: the invariants under one map of names, and every barrier's first round. -/
def invs (K : Dev nD × Ck → ℕ) : sProp 𝕄 :=
  iprop((bigSep Finset.univ fun p : Dev nD × Ck => cellInv ER (Rd I) (K p) (cell p.2 p.1))
    ∗ (bigSep Finset.univ fun d : Dev nD => reached ER (cell none d) 0))
instance invs_persistent (K : Dev nD × Ck → ℕ) : BI.Persistent (invs I K) := by unfold invs; infer_instance

theorem invs_inv (K : Dev nD × Ck → ℕ) (j : Ck) (c : Dev nD) : invs I K ⊢ cellInv ER (Rd I) (K (c, j)) (cell j c) := by
  unfold invs
  iintro ⟨H, -⟩
  have h : (bigSep Finset.univ fun p : Dev nD × Ck => (cellInv ER (Rd I) (K p) (cell p.2 p.1) : sProp 𝕄)) ⊢ cellInv ER (Rd I) (K (c, j)) (cell j c) :=
    bigSep_elim (Finset.mem_univ ((c, j) : Dev nD × Ck))
  iapply h; iexact H

/-- A link's tokens while its two cells on this device are closed. -/
def lnkClosed (c : Dev nD) (i : Fin 10) : sProp 𝕄 :=
  iprop((openTok ER (cell (some (.inl i)) c) ∗ openTok ER (cell (some (.inr i)) c))
    ∗ (dutyTok ER (cell (some (.inl i)) c) 0 false ∗ dutyTok ER (cell (some (.inr i)) (peer i c)) 0 false)
    ∗ cred (tallyAt (cell (some (.inr i)) c) () (amt i)))

/-- And once they are open. -/
def lnkOpen (c : Dev nD) (i : Fin 10) : sProp 𝕄 :=
  iprop(lnkTok c i ∗ waitTok (some (.inr i)) c ∗ reached ER (cell (some (.inr i)) c) 0)

/-- The barrier's share of a device: the two duties it pays and its own wait. -/
def barTok (c : Dev nD) : sProp 𝕄 :=
  iprop((dutyTok ER (cell none (p1 c)) 0 false ∗ dutyTok ER (cell none (p2 c)) 0 true) ∗ waitTok none c)

/-- What a device enters the kernel with, its cells closed, -/
def closedT (c : Dev nD) : sProp 𝕄 := iprop((∃ K, invs I K) ∗ barTok c ∗ bigSep Finset.univ (lnkClosed c))

/-- and open. -/
def openT (c : Dev nD) : sProp 𝕄 := iprop((∃ K, recs I K) ∗ barTok c ∗ bigSep Finset.univ (lnkOpen c))

/-- Opening a link's two cells with their counters. -/
theorem open_link (K : Dev nD × Ck → ℕ) (c : Dev nD) (i : Fin 10) :
    iprop(invs I K ∗ (lnkClosed c i ∗ (semVal (cell (some (.inl i)) c) 0 ∗ semVal (cell (some (.inr i)) c) 0)))
      ⊢ (|={Set.univ}=> lnkOpen c i : sProp 𝕄) := by
  unfold lnkClosed lnkOpen lnkTok sndTok waitTok
  iintro ⟨#HR, ⟨⟨HoS, HoR⟩, ⟨HtS, HtR⟩, Hc⟩, HvS, HvR⟩
  imod (Rounds.cell_open ER (Rd I) (g := cell (some (.inl i)) c) (Set.mem_univ (K (c, some (.inl i))))) $$ [HoS HvS] with ⟨HaS, #HrS⟩
  · isplitr; · iapply (invs_inv I K (some (.inl i)) c); iexact HR
    isplitl [HoS] <;> iassumption
  imod (Rounds.cell_open ER (Rd I) (g := cell (some (.inr i)) c) (Set.mem_univ (K (c, some (.inr i))))) $$ [HoR HvR] with ⟨HaR, #HrR⟩
  · isplitr; · iapply (invs_inv I K (some (.inr i)) c); iexact HR
    isplitl [HoR] <;> iassumption
  imodintro
  isplitl [HtS HtR HaS]
  · isplitr [HaS]
    · isplitr; · iexact HrS
      isplitl [HtS] <;> iassumption
    · iexact HaS
  isplitl [HaR Hc]
  · isplitl [HaR]; · iexact HaR
    iexact Hc
  iexact HrR

theorem ownSems0_eq (c : Dev nD) : (Pipeline.ownSems0 osem c : sProp 𝕄)
    = bigSep Finset.univ fun i : Fin 10 => iprop(semVal (cell (some (.inl i)) c) 0 ∗ semVal (cell (some (.inr i)) c) 0) := by
  unfold Pipeline.ownSems0
  rw [bigSep_univ_sum, bigSep_sep']
  rfl

/-- A device opens all its cells when the kernel starts. -/
theorem open_all (c : Dev nD) :
    iprop(closedT I c ∗ Pipeline.ownSems0 osem c ∗ levAts L lv) ⊢ (|={Set.univ}=> openT I c : sProp 𝕄) := by
  rw [ownSems0_eq]
  unfold closedT openT
  iintro ⟨⟨⟨%K, #HR⟩, HB, HL⟩, HV, #Hlev⟩
  have h : iprop(invs I K ∗ bigSep Finset.univ fun i : Fin 10 => iprop(lnkClosed c i ∗ (semVal (cell (some (.inl i)) c) 0 ∗ semVal (cell (some (.inr i)) c) 0)))
      ⊢ (|={Set.univ}=> bigSep Finset.univ (lnkOpen c) : sProp 𝕄) :=
    BIBase.Entails.trans (bigSep_with_persistent (R := invs I K) fun i _ => open_link I K c i) (bigSep_fupd _ _)
  imod h $$ [HL HV] with HO
  · isplitr; · iexact HR
    iapply bigSep_pair
    isplitl [HL] <;> iassumption
  imodintro
  isplitr
  · iexists K
    unfold recs invs
    icases HR with ⟨#H1, #H2⟩
    isplitr; · iexact H1
    isplitr; · iexact H2
    iexact Hlev
  isplitl [HB] <;> iassumption

/-! ## The tokens dealt -/

def p1E : Dev nD ≃ Dev nD := ⟨p1, p1, p1_p1, p1_p1⟩
def p2E : Dev nD ≃ Dev nD := ⟨p2, p2, p2_p2, p2_p2⟩
/-- A link's two ends exchanged. -/
def peerE : Dev nD × Fin 10 ≃ Dev nD × Fin 10 :=
  ⟨fun q => (peer q.2 q.1, q.2), fun q => (peer q.2 q.1, q.2), fun q => Prod.ext (peer_peer q.2 q.1) rfl, fun q => Prod.ext (peer_peer q.2 q.1) rfl⟩

/-- The tokens a device pays with. -/
def payTok (c : Dev nD) : sProp 𝕄 :=
  iprop((dutyTok ER (cell none (p1 c)) 0 false ∗ dutyTok ER (cell none (p2 c)) 0 true)
    ∗ bigSep Finset.univ fun i : Fin 10 => iprop(dutyTok ER (cell (some (.inl i)) c) 0 false ∗ dutyTok ER (cell (some (.inr i)) (peer i c)) 0 false))

theorem bigSep_two (Φ : Bool → sProp 𝕄) : bigSep Finset.univ Φ = iprop(Φ false ∗ Φ true) := by
  rw [bigSep_univ_eq_bigSepL [false, true] (by decide) (by decide), bigSepL_cons_cons, bigSepL_singleton]
  rfl

/-- All duties' tokens, each with the device that pays it. -/
theorem deal_duties : (bigSep duties fun x => (dutyTok ER x.1 x.2.1 x.2.2 : sProp 𝕄)) = bigSep Finset.univ payTok := by
  have e1 : (bigSep duties fun x => (dutyTok ER x.1 x.2.1 x.2.2 : sProp 𝕄))
      = bigSep Finset.univ fun c : Dev nD => iprop((dutyTok ER (cell none c) 0 false ∗ dutyTok ER (cell none c) 0 true)
        ∗ ((bigSep Finset.univ fun i : Fin 10 => dutyTok ER (cell (some (.inl i)) c) 0 false)
          ∗ bigSep Finset.univ fun i : Fin 10 => dutyTok ER (cell (some (.inr i)) c) 0 false)) := by
    rw [bigSep_map, bigSep_univ_prod]
    exact bigSep_congr fun c _ => by rw [bigSep_univ_sum, bigSep_two, bigSep_univ_sum]; rfl
  have e2 : (bigSep Finset.univ fun c : Dev nD => bigSep Finset.univ fun i : Fin 10 => (dutyTok ER (cell (some (.inr i)) c) 0 false : sProp 𝕄))
      = bigSep Finset.univ fun c : Dev nD => bigSep Finset.univ fun i : Fin 10 => dutyTok ER (cell (some (.inr i)) (peer i c)) 0 false := by
    have h := bigSep_univ_equiv peerE fun q : Dev nD × Fin 10 => (dutyTok ER (cell (some (.inr q.2)) q.1) 0 false : sProp 𝕄)
    rw [bigSep_univ_prod, bigSep_univ_prod] at h
    exact h
  rw [e1, bigSep_sep', bigSep_sep', bigSep_sep', bigSep_univ_equiv p1E (fun c : Dev nD => (dutyTok ER (cell none c) 0 false : sProp 𝕄)),
    bigSep_univ_equiv p2E (fun c : Dev nD => (dutyTok ER (cell none c) 0 true : sProp 𝕄)),
    e2, ← bigSep_sep', ← bigSep_sep', ← bigSep_sep']
  exact bigSep_congr fun c _ => by unfold payTok; rw [bigSep_sep']; rfl

/-! ## The launch's credit -/

theorem creds_links (c : Dev nD) (l : List (Fin 10)) : (Pipeline.launchCred (fun d => owedL d l) c : sProp 𝕄)
    ⊢ bigSepL l fun i => cred (tallyAt (cell (some (.inr i)) c) () (amt i)) := by
  induction l with
  | nil => rw [bigSepL_nil]; exact Entails.of_eq (Pipeline.launchCred_zero c)
  | cons i l ih =>
    have e : (Pipeline.launchCred (fun d => owedL d (i :: l)) c : sProp 𝕄)
        = iprop(Pipeline.launchCred (fun d => owedL d l) c ∗ Pipeline.launchCred (fun d => tallyAt (cell (some (.inr i)) (peer i d)) () (amt i)) c) :=
      Pipeline.launchCred_add _ _ c
    rw [e]
    rw [bigSepL_cons]
    show iprop(Pipeline.launchCred (fun d => owedL d l) c ∗ Pipeline.launchCred (fun d => tallyAt (cell (some (.inr i)) (peer i d)) () (amt i)) c)
      ⊢ iprop(cred (tallyAt (cell (some (.inr i)) c) () (amt i)) ∗ bigSepL l fun i => cred (tallyAt (cell (some (.inr i)) c) () (amt i)))
    iintro ⟨H1, H2⟩
    isplitl [H2]
    · iapply (Pipeline.launchCred_tallyAt (osem (.inr i)) (peer i) (peer i) (peer_peer i) (peer_peer i) () (amt i) c); iexact H2
    · iapply ih; iexact H1

/-- A device's launch credit: the two units of its barrier and each of its landings. -/
theorem creds (c : Dev nD) : (Pipeline.launchCred O₀ c : sProp 𝕄)
    ⊢ iprop(cred (tallyAt (cell none c) () 2) ∗ bigSep Finset.univ fun i : Fin 10 => cred (tallyAt (cell (some (.inr i)) c) () (amt i))) := by
  have e1 : (Pipeline.launchCred O₀ c : sProp 𝕄)
      = iprop(Pipeline.launchCred O₁ c ∗ Pipeline.launchCred (fun d => tallyAt (cell none (p1 d)) () 1) c) := Pipeline.launchCred_add _ _ c
  have e2 : (Pipeline.launchCred O₁ c : sProp 𝕄)
      = iprop(Pipeline.launchCred (fun d => owedL d order) c ∗ Pipeline.launchCred (fun d => tallyAt (cell none (p2 d)) () 1) c) := Pipeline.launchCred_add _ _ c
  have e3 : (tallyAt (cell none c) () 2 : CellTallies nD τ sig Unit) = tallyAt (cell none c) () 1 + tallyAt (cell none c) () 1 := (tallyAt_add (cell none c) () 1 1).symm
  rw [e1, e2, e3, bigSep_univ_eq_bigSepL order (by decide) (by decide)]
  iintro ⟨⟨HL, H2⟩, H1⟩
  isplitl [H1 H2]
  · iapply (cred_add _ _).2
    isplitl [H1]
    · iapply (Pipeline.launchCred_tallyAt (csem none) p1 p1 p1_p1 p1_p1 () 1 c); iexact H1
    · iapply (Pipeline.launchCred_tallyAt (csem none) p2 p2 p2_p2 p2_p2 () 1 c); iexact H2
  · iapply (creds_links c order); iexact HL

end Cert.KernelIdeal.Run

end
-- ==== Proof.KernelIdeal.Launch.lean ====
/-
# The kernel's region

The region's proof data: the five staged operands, the result, what the kernel holds before and after its one grid
point, and the body obligation, which is the body's run.
-/
module

public import proofs.«01_k».proof.Proof.KernelIdeal.Ghost
public import proofs.«01_k».proof.Proof.Gen.KernelIdeal.Frame
public import Idealize.ShloMosaic.Lib.Pipeline.ValueKit.Geometry

@[expose] public section

set_option maxRecDepth 16384

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)

variable {F : FTy → Type} [FloatOps F] [Named F]
local notation "𝕄" => MT nD τ sig Unit (Elt F) ℕ UU ℕ

variable (m : (ℓ : Loc nD τ sig) → Buf (Elt F) ℓ) (ρ : Dev nD → PrngReg)

/-! ## The operands -/

/-- The five blocks each device's kernel is handed. -/
def inp (c : Dev nD) : Inp F where
  x := iblk m c 0 t0_0
  wq := iblk m c 1 t0_0
  k := iblk m c 2 t0_0
  v := iblk m c 3 t0_0
  wo := iblk m c 4 t0_0

/-! ## The proof data -/

/-- The scratch buffers the device computes into and receives into, whole, and no longer anybody else's. -/
def scratch (c : Dev nD) : sProp 𝕄 :=
  iprop(bufAny c cc0_scratch0 ∗ bufAny c cc0_scratch1 ∗ bufAny c cc0_scratch2 ∗ bufAny c cc0_scratch3
    ∗ bufAny c cc0_scratch4 ∗ bufAny c cc0_scratch5 ∗ bufAny c cc0_scratch6 ∗ bufAny c cc0_scratch7)

/-- Before the kernel's one point and after it. -/
def phiStart (c : Dev nD) : sProp 𝕄 := iprop(((∃ K, exStart (inp m) c K) ∗ bufsIn c) ∗ ∃ r, prngReg c r)
def phiEnd (c : Dev nD) : sProp 𝕄 := iprop((zeros c ∗ bufsOut (inp m) c) ∗ ∃ r, prngReg c r)

def dat (c : Dev nD) : Dat τ (Elt F) Unit ℕ UU ℕ cfg0 c where
  A w := V m c (Pipeline.arrRef spec0 w)
  after := fun
    | 0, t => iblk m c 0 t | 1, t => iblk m c 1 t | 2, t => iblk m c 2 t | 3, t => iblk m c 3 t | 4, t => iblk m c 4 t
    | 5, _ => out (inp m) c
  Φ t := if t.val = 0 then phiStart m c else phiEnd m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed t0_0.succ = 0 := by
  show (if (t0_0.succ : Fin (cfg0.N + 1)).val = 0 then O₀ c else 0) = 0; exact if_neg (Nat.succ_ne_zero _)
theorem phi_first (c : Dev nD) : (dat m c).Φ t0_0.castSucc = phiStart m c := by
  show (if (t0_0.castSucc : Fin (cfg0.N + 1)).val = 0 then phiStart m c else phiEnd m c) = phiStart m c; exact if_pos rfl
theorem phi_last (c : Dev nD) : (dat m c).Φ t0_0.succ = phiEnd m c := by
  show (if (t0_0.succ : Fin (cfg0.N + 1)).val = 0 then phiStart m c else phiEnd m c) = phiEnd m c; exact if_neg (Nat.succ_ne_zero _)

theorem owesAt_first (c : Dev nD) : ((dat m c).owesAt () t0_0.castSucc : sProp 𝕄) ⊢ owesA c (O₀ c) := by
  unfold Dat.owesAt Pipeline.owesWithin owesA; rw [owed_first]
  iintro ⟨%W, -, HO⟩; iexists W; iexact HO
theorem owesAt_last (c : Dev nD) : (owesA c 0 : sProp 𝕄) ⊢ (dat m c).owesAt () t0_0.succ := by
  unfold Dat.owesAt Pipeline.owesWithin Dat.bound owesA; rw [owed_last]
  iintro ⟨%W, HO⟩; iexists W
  isplitr; · ipureintro; exact fun _ _ => Or.inl trivial
  iexact HO

/-- An input's staging buffer holds its block when the body starts. -/
theorem before_0 (c : Dev nD) (t) (d) : (dat m c).before 0 t d = iblk m c 0 t := by unfold Dat.before; rw [if_pos (fetch0_0 t)]; rfl
theorem before_1 (c : Dev nD) (t) (d) : (dat m c).before 1 t d = iblk m c 1 t := by unfold Dat.before; rw [if_pos (fetch0_1 t)]; rfl
theorem before_2 (c : Dev nD) (t) (d) : (dat m c).before 2 t d = iblk m c 2 t := by unfold Dat.before; rw [if_pos (fetch0_2 t)]; rfl
theorem before_3 (c : Dev nD) (t) (d) : (dat m c).before 3 t d = iblk m c 3 t := by unfold Dat.before; rw [if_pos (fetch0_3 t)]; rfl
theorem before_4 (c : Dev nD) (t) (d) : (dat m c).before 4 t d = iblk m c 4 t := by unfold Dat.before; rw [if_pos (fetch0_4 t)]; rfl

/-- The body obligation. -/
theorem body (c : Dev nD) : BodyObligation (dat m c) defs₀ 𝒱₀ () Set.univ := fun t => by
  obtain rfl := fin_N0 t
  rw [bigSep_W0, bigSep_W0, phi_first, phi_last]
  show iprop(phiStart m c ∗ (dat m c).owesAt () t0_0.castSucc
      ∗ (∃ d, owns (c : Thread nD τ) T0 fullShare ((dat m c).before 0 t0_0 d)) ∗ (∃ d, owns (c : Thread nD τ) T1 fullShare ((dat m c).before 1 t0_0 d))
      ∗ (∃ d, owns (c : Thread nD τ) T2 fullShare ((dat m c).before 2 t0_0 d)) ∗ (∃ d, owns (c : Thread nD τ) T3 fullShare ((dat m c).before 3 t0_0 d))
      ∗ (∃ d, owns (c : Thread nD τ) T4 fullShare ((dat m c).before 4 t0_0 d)) ∗ (∃ d, owns (c : Thread nD τ) T5 fullShare ((dat m c).before 5 t0_0 d)))
    ⊢ wp frame (wpE (defs₀ (F := F)) 𝒱₀ (c : Thread nD τ) none) Set.univ (atArgs cc0_body) fun _ =>
      iprop(phiEnd m c ∗ (dat m c).owesAt () t0_0.succ
      ∗ owns (c : Thread nD τ) T0 fullShare (inp m c).x ∗ owns (c : Thread nD τ) T1 fullShare (inp m c).wq
      ∗ owns (c : Thread nD τ) T2 fullShare (inp m c).k ∗ owns (c : Thread nD τ) T3 fullShare (inp m c).v
      ∗ owns (c : Thread nD τ) T4 fullShare (inp m c).wo ∗ owns (c : Thread nD τ) T5 fullShare (out (inp m) c))
  simp only [before_0, before_1, before_2, before_3, before_4]
  unfold phiStart phiEnd
  iintro ⟨⟨⟨⟨%K, HX⟩, HB⟩, Hp⟩, HO, ⟨%d0, H0⟩, ⟨%d1, H1⟩, ⟨%d2, H2⟩, ⟨%d3, H3⟩, ⟨%d4, H4⟩, ⟨%d5, H5⟩⟩
  iapply (body_run (inp m) K c)
  isplitl [HX]; · iexact HX
  isplitl [HO]; · iapply (owesAt_first m c); iexact HO
  isplitl [H0 H1 H2 H3 H4 H5]
  · unfold stagesIn
    isplitl [H0]; · iexact H0
    isplitl [H1]; · iexact H1
    isplitl [H2]; · iexact H2
    isplitl [H3]; · iexact H3
    isplitl [H4]; · iexact H4
    iapply (ownsAny_intro (c : Thread nD τ) T5 _); iexact H5
  isplitl [HB]; · iexact HB
  iintro ⟨HZ, HO, HS, HB⟩
  isplitl [HZ HB Hp]
  · isplitr [Hp]
    · isplitl [HZ] <;> iassumption
    · iexact Hp
  isplitl [HO]; · iapply (owesAt_last m c); iexact HO
  unfold stagesOut
  iexact HS

end Cert.KernelIdeal.Run

end
-- ==== Proof.KernelIdeal.Region.lean ====
/-
# The kernel's region, entered and left

What a device brings to the region (its buffers, its cells closed, what it owes) and what it takes away (the result, every
counter at zero), and the region's record made of them.
-/
module

public import proofs.«01_k».proof.Proof.KernelIdeal.Launch

@[expose] public section

set_option maxRecDepth 16384

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)

variable {F : FTy → Type} [FloatOps F] [Named F]
local notation "𝕄" => MT nD τ sig Unit (Elt F) ℕ UU ℕ

variable (m : (ℓ : Loc nD τ sig) → Buf (Elt F) ℓ) (ρ : Dev nD → PrngReg)

/-! ## The buffers around the region -/

/-- The buffers that outlive a call. -/
def bufs : Finset (DevRef τ sig) := (StableHlo.tcRefs τ sig).filter fun b => ¬ b.isScoped
/-- Those of them that no window of the region covers. -/
def rest : Finset (DevRef τ sig) := bufs \ Pipeline.arrRefs (τ := τ) spec0

/-- Their contents at the launch, after the two reshapes and after the region. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v3) (out (inp m) c)

theorem V₂_out (c : Dev nD) : V₂ m c main_v3 = out (inp m) c := Function.update_self _ _ _
theorem V₂_of_ne (c : Dev nD) {b : DevRef τ sig} (h : b ≠ Proc.devRef .tc main_v3) : V₂ m c b = V₁ m c b := Function.update_of_ne h _ _

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) rest W) :=
  StableHlo.held_sub_split (c : Thread nD τ) (by decide) W

/-! ## The arrays after the region -/

theorem arr_in (c : Dev nD) (w : Fin cfg0.W) (h : (cfg0.win w).isOut = false) (t : ℕ) : (dat m c).arrAt w t = V₁ m c (Pipeline.arrRef spec0 w) :=
  (dat m c).arrAt_in w h t

theorem arr_out (c : Dev nD) : (dat m c).arrAt 5 cfg0.N = out (inp m) c :=
  Dat.arrAt_eq_of_after_last (dat m c) 5 t0_0 (by decide +kernel) (out (inp m) c) (fun j => rfl)

/-! ## What a device holds when the kernel's point begins -/

/-- The chunk and row-sum buffers, as the library's list of scoped buffers has them. -/
theorem scopedRest_eq (c : Dev nD) : (Pipeline.scopedRest (Pipeline.pin (pcfgs (F := F)) adm 0).spec c : sProp 𝕄)
    = iprop(ownsAny (c : Thread nD τ) B0 ∗ ownsAny (c : Thread nD τ) B1 ∗ ownsAny (c : Thread nD τ) B2 ∗ ownsAny (c : Thread nD τ) B3
      ∗ ownsAny (c : Thread nD τ) L0 ∗ ownsAny (c : Thread nD τ) L1 ∗ ownsAny (c : Thread nD τ) L2 ∗ ownsAny (c : Thread nD τ) L3) := by
  rw [← bufAny_eq, ← bufAny_eq, ← bufAny_eq, ← bufAny_eq, ← bufAny_eq, ← bufAny_eq, ← bufAny_eq, ← bufAny_eq]
  exact scopedRest0_eq c

theorem links_eq (Φ : Fin 10 → sProp (MT nD τ sig Unit (Elt F) ℕ UU ℕ)) : bigSep Finset.univ Φ
    = iprop(Φ 0 ∗ Φ 1 ∗ Φ 2 ∗ Φ 3 ∗ Φ 4 ∗ Φ 5 ∗ Φ 6 ∗ Φ 7 ∗ Φ 8 ∗ Φ 9) := by
  rw [bigSep_univ_eq_bigSepL [0, 1, 2, 3, 4, 5, 6, 7, 8, 9] (by decide) (by decide)]
  rfl

theorem barPay_p1 (c : Dev nD) : (barPay (p1 c) false : sProp 𝕄)
    = iprop(landAny 0 c ∗ landAny 2 c ∗ landAny 5 c ∗ landAny 8 c ∗ landAny 7 c) := by
  show iprop(landAny 0 (p1 (p1 c)) ∗ landAny 2 (p1 (p1 c)) ∗ landAny 5 (p1 (p1 c)) ∗ landAny 8 (p1 (p1 c)) ∗ landAny 7 (p1 (p1 c))) = _
  rw [p1_p1]
theorem barPay_p2 (c : Dev nD) : (barPay (p2 c) true : sProp 𝕄)
    = iprop(landAny 1 c ∗ landAny 4 c ∗ landAny 3 c ∗ landAny 6 c ∗ landAny 9 c) := by
  show iprop(landAny 1 (p2 (p2 c)) ∗ landAny 4 (p2 (p2 c)) ∗ landAny 3 (p2 (p2 c)) ∗ landAny 6 (p2 (p2 c)) ∗ landAny 9 (p2 (p2 c))) = _
  rw [p2_p2]

/-- The scratch buffers and the opened cells are what the kernel starts with. -/
theorem start_intro (c : Dev nD) :
    iprop(Pipeline.scopedRest (Pipeline.pin (pcfgs (F := F)) adm 0).spec c ∗ (∃ r, prngReg c r) ∗ openT (inp m) c) ⊢ (phiStart m c : sProp 𝕄) := by
  rw [scopedRest_eq]
  unfold openT phiStart exStart bufsIn barTok
  rw [links_eq, barPay_p1, barPay_p2]
  unfold lnkOpen
  iintro ⟨⟨HB0, HB1, HB2, HB3, HL0, HL1, HL2, HL3⟩, Hp, ⟨%K, #HR⟩, ⟨⟨Ht1, Ht2⟩, Wn⟩, HL⟩
  icases HL with ⟨⟨K0, Wr0, #Hr0⟩, ⟨K1, Wr1, #Hr1⟩, ⟨K2, Wr2, #Hr2⟩, ⟨K3, Wr3, #Hr3⟩, ⟨K4, Wr4, #Hr4⟩, ⟨K5, Wr5, #Hr5⟩, ⟨K6, Wr6, #Hr6⟩, ⟨K7, Wr7, #Hr7⟩, ⟨K8, Wr8, #Hr8⟩, ⟨K9, Wr9, #Hr9⟩⟩
  ihave HB0 := (slots_split (F := F) c B0) $$ HB0
  ihave HB1 := (slots_split (F := F) c B1) $$ HB1
  ihave HB2 := (slots_split (F := F) c B2) $$ HB2
  ihave HB3 := (slots_split (F := F) c B3) $$ HB3
  unfold slotsAny
  icases HB0 with ⟨HB0R0, HB0R1, HB0R2, HB0R3⟩
  icases HB1 with ⟨HB1R0, HB1R1, HB1R2, HB1R3⟩
  icases HB2 with ⟨HB2R0, HB2R1, HB2R2, HB2R3⟩
  icases HB3 with ⟨HB3R0, HB3R1, HB3R2, HB3R3⟩
  isplitr [Hp]; swap; · iexact Hp
  isplitr [HB0R0 HB0R1 HB0R2 HB0R3 HB2R0 HB2R1 HB2R2 HB2R3 HL0 HL2]
  · iexists K
    isplitr; · iexact HR
    isplitl [Ht1]; · iexact Ht1
    isplitl [Ht2]; · iexact Ht2
    isplitl [HB1R0 HB1R2 HB3R1 HL1 HB3R3]
    · isplitl [HB1R0]
      · iapply (show iprop(reached ER (cell (some (.inr 0)) c) 0 ∗ ownsAny (c : Thread nD τ) (B1.slice R0 (fun _ => rfl))) ⊢ landAny (F := F) 0 c from BI.Entails.refl _); isplitr <;> [iexact Hr0; iexact HB1R0]
      isplitl [HB1R2]
      · iapply (show iprop(reached ER (cell (some (.inr 2)) c) 0 ∗ ownsAny (c : Thread nD τ) (B1.slice R2 (fun _ => rfl))) ⊢ landAny (F := F) 2 c from BI.Entails.refl _); isplitr <;> [iexact Hr2; iexact HB1R2]
      isplitl [HB3R1]
      · iapply (show iprop(reached ER (cell (some (.inr 5)) c) 0 ∗ ownsAny (c : Thread nD τ) (B3.slice R1 (fun _ => rfl))) ⊢ landAny (F := F) 5 c from BI.Entails.refl _); isplitr <;> [iexact Hr5; iexact HB3R1]
      isplitl [HL1]
      · iapply (show iprop(reached ER (cell (some (.inr 8)) c) 0 ∗ ownsAny (c : Thread nD τ) L1) ⊢ landAny (F := F) 8 c from BI.Entails.refl _); isplitr <;> [iexact Hr8; iexact HL1]
      iapply (show iprop(reached ER (cell (some (.inr 7)) c) 0 ∗ ownsAny (c : Thread nD τ) (B3.slice R3 (fun _ => rfl))) ⊢ landAny (F := F) 7 c from BI.Entails.refl _); isplitr <;> [iexact Hr7; iexact HB3R3]
    isplitl [HB1R1 HB3R0 HB1R3 HB3R2 HL3]
    · isplitl [HB1R1]
      · iapply (show iprop(reached ER (cell (some (.inr 1)) c) 0 ∗ ownsAny (c : Thread nD τ) (B1.slice R1 (fun _ => rfl))) ⊢ landAny (F := F) 1 c from BI.Entails.refl _); isplitr <;> [iexact Hr1; iexact HB1R1]
      isplitl [HB3R0]
      · iapply (show iprop(reached ER (cell (some (.inr 4)) c) 0 ∗ ownsAny (c : Thread nD τ) (B3.slice R0 (fun _ => rfl))) ⊢ landAny (F := F) 4 c from BI.Entails.refl _); isplitr <;> [iexact Hr4; iexact HB3R0]
      isplitl [HB1R3]
      · iapply (show iprop(reached ER (cell (some (.inr 3)) c) 0 ∗ ownsAny (c : Thread nD τ) (B1.slice R3 (fun _ => rfl))) ⊢ landAny (F := F) 3 c from BI.Entails.refl _); isplitr <;> [iexact Hr3; iexact HB1R3]
      isplitl [HB3R2]
      · iapply (show iprop(reached ER (cell (some (.inr 6)) c) 0 ∗ ownsAny (c : Thread nD τ) (B3.slice R2 (fun _ => rfl))) ⊢ landAny (F := F) 6 c from BI.Entails.refl _); isplitr <;> [iexact Hr6; iexact HB3R2]
      iapply (show iprop(reached ER (cell (some (.inr 9)) c) 0 ∗ ownsAny (c : Thread nD τ) L3) ⊢ landAny (F := F) 9 c from BI.Entails.refl _); isplitr <;> [iexact Hr9; iexact HL3]
    isplitl [Wn]; · iexact Wn
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [Wr0]; · iexact Wr0
    isplitl [Wr1]; · iexact Wr1
    isplitl [Wr2]; · iexact Wr2
    isplitl [Wr3]; · iexact Wr3
    isplitl [Wr4]; · iexact Wr4
    isplitl [Wr5]; · iexact Wr5
    isplitl [Wr6]; · iexact Wr6
    isplitl [Wr7]; · iexact Wr7
    isplitl [Wr8]; · iexact Wr8
    iexact Wr9
  · isplitl [HB0R0]; · iexact HB0R0
    isplitl [HB0R1]; · iexact HB0R1
    isplitl [HB0R2]; · iexact HB0R2
    isplitl [HB0R3]; · iexact HB0R3
    isplitl [HB2R0]; · iexact HB2R0
    isplitl [HB2R1]; · iexact HB2R1
    isplitl [HB2R2]; · iexact HB2R2
    isplitl [HB2R3]; · iexact HB2R3
    isplitl [HL0]; · iexact HL0
    iexact HL2

/-! ## What it gives back when its point is over -/

/-- The kernel's last holdings are the scratch buffers, the own counters at zero and the barrier's counter at zero. -/
theorem end_elim [∀ e, Nonempty (Elt F e)] (c : Dev nD) : (phiEnd m c : sProp 𝕄)
    ⊢ iprop(Pipeline.scopedRest (Pipeline.pin (pcfgs (F := F)) adm 0).spec c ∗ (∃ r, prngReg c r) ∗ Pipeline.ownSems0 osem c ∗ semVal (cell none c) 0) := by
  rw [scopedRest_eq, ownSems0_eq, links_eq]
  unfold phiEnd zeros bufsOut
  iintro ⟨⟨⟨Zn, ZL0, ZL1, ZL2, ZL3, ZL4, ZL5, ZL6, ZL7, ZL8, ZL9, ZR0, ZR1, ZR2, ZR3, ZR4, ZR5, ZR6, ZR7, ZR8, ZR9⟩, B0R0, B0R1, B0R2, B0R3, B1R0, B1R1, B1R2, B1R3, B2R0, B2R1, B2R2, B2R3, B3R0, B3R1, B3R2, B3R3, L0, L1, L2, L3⟩, Hp⟩
  isplitr [Hp Zn ZL0 ZL1 ZL2 ZL3 ZL4 ZL5 ZL6 ZL7 ZL8 ZL9 ZR0 ZR1 ZR2 ZR3 ZR4 ZR5 ZR6 ZR7 ZR8 ZR9]
  · isplitl [B0R0 B0R1 B0R2 B0R3]
    · iapply (slots_join (F := F) c B0); unfold slotsAny
      isplitl [B0R0]; · iapply (ownsAny_intro (c : Thread nD τ) (B0.slice R0 (fun _ => rfl)) _); iexact B0R0
      isplitl [B0R1]; · iapply (ownsAny_intro (c : Thread nD τ) (B0.slice R1 (fun _ => rfl)) _); iexact B0R1
      isplitl [B0R2]; · iapply (ownsAny_intro (c : Thread nD τ) (B0.slice R2 (fun _ => rfl)) _); iexact B0R2
      iapply (ownsAny_intro (c : Thread nD τ) (B0.slice R3 (fun _ => rfl)) _); iexact B0R3
    isplitl [B1R0 B1R1 B1R2 B1R3]
    · iapply (slots_join (F := F) c B1); unfold slotsAny
      isplitl [B1R0]; · iapply (ownsAny_intro (c : Thread nD τ) (B1.slice R0 (fun _ => rfl)) _); iexact B1R0
      isplitl [B1R1]; · iapply (ownsAny_intro (c : Thread nD τ) (B1.slice R1 (fun _ => rfl)) _); iexact B1R1
      isplitl [B1R2]; · iapply (ownsAny_intro (c : Thread nD τ) (B1.slice R2 (fun _ => rfl)) _); iexact B1R2
      iapply (ownsAny_intro (c : Thread nD τ) (B1.slice R3 (fun _ => rfl)) _); iexact B1R3
    isplitl [B2R0 B2R1 B2R2 B2R3]
    · iapply (slots_join (F := F) c B2); unfold slotsAny
      isplitl [B2R0]; · iapply (ownsAny_intro (c : Thread nD τ) (B2.slice R0 (fun _ => rfl)) _); iexact B2R0
      isplitl [B2R1]; · iapply (ownsAny_intro (c : Thread nD τ) (B2.slice R1 (fun _ => rfl)) _); iexact B2R1
      isplitl [B2R2]; · iapply (ownsAny_intro (c : Thread nD τ) (B2.slice R2 (fun _ => rfl)) _); iexact B2R2
      iapply (ownsAny_intro (c : Thread nD τ) (B2.slice R3 (fun _ => rfl)) _); iexact B2R3
    isplitl [B3R0 B3R1 B3R2 B3R3]
    · iapply (slots_join (F := F) c B3); unfold slotsAny
      isplitl [B3R0]; · iapply (ownsAny_intro (c : Thread nD τ) (B3.slice R0 (fun _ => rfl)) _); iexact B3R0
      isplitl [B3R1]; · iapply (ownsAny_intro (c : Thread nD τ) (B3.slice R1 (fun _ => rfl)) _); iexact B3R1
      isplitl [B3R2]; · iapply (ownsAny_intro (c : Thread nD τ) (B3.slice R2 (fun _ => rfl)) _); iexact B3R2
      iapply (ownsAny_intro (c : Thread nD τ) (B3.slice R3 (fun _ => rfl)) _); iexact B3R3
    isplitl [L0]; · iapply (ownsAny_intro (c : Thread nD τ) (Memref.whole cc0_scratch4) _); iexact L0
    isplitl [L1]; · iapply (ownsAny_intro (c : Thread nD τ) (Memref.whole cc0_scratch5) _); iexact L1
    isplitl [L2]; · iapply (ownsAny_intro (c : Thread nD τ) (Memref.whole cc0_scratch6) _); iexact L2
    iapply (ownsAny_intro (c : Thread nD τ) (Memref.whole cc0_scratch7) _); iexact L3
  isplitl [Hp]; · iexact Hp
  isplitr [Zn]; swap; · iexact Zn
  isplitl [ZL0 ZR0]; · isplitl [ZL0] <;> iassumption
  isplitl [ZL1 ZR1]; · isplitl [ZL1] <;> iassumption
  isplitl [ZL2 ZR2]; · isplitl [ZL2] <;> iassumption
  isplitl [ZL3 ZR3]; · isplitl [ZL3] <;> iassumption
  isplitl [ZL4 ZR4]; · isplitl [ZL4] <;> iassumption
  isplitl [ZL5 ZR5]; · isplitl [ZL5] <;> iassumption
  isplitl [ZL6 ZR6]; · isplitl [ZL6] <;> iassumption
  isplitl [ZL7 ZR7]; · isplitl [ZL7] <;> iassumption
  isplitl [ZL8 ZR8]; · isplitl [ZL8] <;> iassumption
  isplitl [ZL9] <;> iassumption

/-! ## The levels -/

theorem stage_ne : ∀ (w : Fin 6) (s : Fin (spec0 w).nbuf) (j : Ck), csem j ≠ .dma ((spec0 w).sem s) := by decide

theorem lv_stage (c : Dev nD) (w : Fin 6) (s : Fin (spec0 w).nbuf) : lv ((c : Thread nD τ), .dma ((spec0 w).sem s)) () = 0 := by
  have h : cinv (.dma ((spec0 w).sem s)) = none := by
    unfold cinv Function.partialInv
    exact dif_neg fun ⟨j, hj⟩ => stage_ne w s j hj
  unfold lv
  rw [h]

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · obtain ⟨j, d, hj, rfl⟩ := O₀_pos h
    exact ⟨by rw [L_tc]; exact Finset.mem_singleton_self _, by rw [lv_cell]; exact hj⟩
  · exact absurd h (Nat.lt_irrefl 0)

/-! ## The region -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What a device leaves the region with, beside the buffers: its barrier's counter at zero. -/
def barZero (c : Dev nD) : sProp 𝕄 := semVal (cell none c) 0

theorem hold_none (c : Dev nD) (W : Valuation τ sig (Elt F)) : (StableHlo.held (c.tc : Thread nD τ) ∅ W : sProp 𝕄) = BI.emp := by
  unfold StableHlo.held; exact BI.bigSep_empty

theorem reg_in (c : Dev nD) : iprop(Pipeline.scopedRest (Pipeline.pin (pcfgs (F := F)) adm 0).spec c ∗ (∃ r, prngReg c r)
    ∗ StableHlo.held (c.tc : Thread nD τ) ∅ (V₁ m c) ∗ openT (inp m) c) ⊢ (pdats m 0 c).Φ 0 := by
  rw [show (pdats m 0 c).Φ 0 = phiStart m c from phi_first m c]
  iintro ⟨Hs, Hp, -, HT⟩
  iapply (start_intro m c)
  isplitl [Hs]; · iexact Hs
  isplitl [Hp] <;> iassumption

theorem reg_out [∀ e, Nonempty (Elt F e)] (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ barZero c) := by
  rw [show (pdats m 0 c).Φ (Fin.last (Pipeline.pin (pcfgs (F := F)) adm 0).N) = phiEnd m c from phi_last m c, hold_none]
  unfold barZero
  iintro H
  ihave H := (end_elim m c) $$ H
  icases H with ⟨Hs, Hp, Ho, Hb⟩
  isplitl [Hs]; · iexact Hs
  isplitl [Hp]; · iexact Hp
  isplitr; · iempintro
  isplitl [Ho] <;> iassumption

theorem arr_start (c : Dev nD) (w : Fin (Pipeline.pin (pcfgs (F := F)) adm 0).W) :
    (pdats m 0 c).arrAt w 0 = V₁ m c (Proc.devRef .tc (Pipeline.arrRef (Pipeline.pin (pcfgs (F := F)) adm 0).spec w)) := rfl

theorem arr_end (c : Dev nD) (w : Fin (Pipeline.pin (pcfgs (F := F)) adm 0).W) :
    (pdats m 0 c).arrAt w (Pipeline.pin (pcfgs (F := F)) adm 0).N
      = V₂ m c (Proc.devRef .tc (Pipeline.arrRef (Pipeline.pin (pcfgs (F := F)) adm 0).spec w)) := by
  match w with
  | 0 => exact (arr_in m c 0 rfl _).trans (V₂_of_ne m c (by decide)).symm
  | 1 => exact (arr_in m c 1 rfl _).trans (V₂_of_ne m c (by decide)).symm
  | 2 => exact (arr_in m c 2 rfl _).trans (V₂_of_ne m c (by decide)).symm
  | 3 => exact (arr_in m c 3 rfl _).trans (V₂_of_ne m c (by decide)).symm
  | 4 => exact (arr_in m c 4 rfl _).trans (V₂_of_ne m c (by decide)).symm
  | 5 => exact (arr_out m c).trans (V₂_out m c).symm

theorem rest_ne : ∀ b ∈ rest, b ≠ Proc.devRef .tc main_v3 := by decide

set_option backward.isDefEq.respectTransparency.types false in
/-- The region's record. -/
def reg [∀ e, Nonempty (Elt F e)] : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ rest (Finset.empty_subset _) kitP rfl (fun c => (body m c).loose)
    (fun _ => 0) O₀ (fun c => (owed_first m c).trans (zero_add _).symm) (owed_last m) (fun _ => rfl)
    (fun c w => by match w with | 0 => rfl | 1 => rfl | 2 => rfl | 3 => rfl | 4 => rfl | 5 => rfl)
    (V₁ m) (V₂ m) (fun c b hb => V₂_of_ne m c (rest_ne b (Finset.mem_sdiff.mp hb).1))
    (closedT (inp m)) barZero (openT (inp m)) barZero (open_all (inp m)) (reg_in m) (reg_out m)
    (fun c => by iintro H; imodintro; iexact H)
    (fun _ => 0)
    ⟨fun c w s => by rw [L_tc]; exact Finset.mem_singleton_self _, fun c w s => (lv_stage c w s).le, fun c t g i h => cut m c t g i h⟩
    (fun _ => iprop(emp)) (arr_start m) (arr_end m)

/-- What rides beside the buffers up to the region. -/
def beside (c : Dev nD) : sProp 𝕄 := iprop((closedT (inp m) c ∗ ∃ r, prngReg c r) ∗ ∃ W, owes (c : Thread nD τ) (O₀ c) W)

theorem reg_pre [∀ e, Nonempty (Elt F e)] (c : Dev nD) : iprop(StableHlo.held (c : Thread nD τ) bufs (V₁ m c) ∗ beside m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) rest (V₁ m c) ∗ emp) ∗ closedT (inp m) c ∗ ∃ Wd, owes (c : Thread nD τ) (0 + O₀ c) Wd)
  rw [zero_add, bufs_split]
  unfold beside
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT] <;> iassumption

theorem reg_post [∀ e, Nonempty (Elt F e)] (c : Dev nD) : (reg m).post c
    ⊢ iprop((StableHlo.held (c : Thread nD τ) bufs (V₂ m c) ∗ semVal (cell none c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) rest (V₂ m c) ∗ emp) ∗ barZero c ∗ ∃ Wd, owes (c : Thread nD τ) (0 : CellTallies nD τ sig Unit) Wd) ⊢ _
  rw [bufs_split]
  unfold barZero
  iintro ⟨Ha, -, ⟨Hr, -⟩, Hb, HO⟩
  isplitr [HO]
  · isplitr [Hb]
    · isplitl [Ha] <;> iassumption
    · iexact Hb
  iexact HO

end Cert.KernelIdeal.Run

end
-- ==== Proof.KernelIdeal.Main.lean ====
/-
# The run of the whole program

What the launch deals, the program as two reshapes and the region, and the theorem: every device's result is the kernel's
value of all the devices' operands, the arguments are untouched and every counter is back at zero.
-/
module

public import proofs.«01_k».proof.Proof.KernelIdeal.Region

@[expose] public section

set_option maxRecDepth 16384

noncomputable section

namespace Cert.KernelIdeal.Run

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)

variable {F : FTy → Type} [FloatOps F] [Named F]
local notation "𝕄" => MT nD τ sig Unit (Elt F) ℕ UU ℕ

variable (m : (ℓ : Loc nD τ sig) → Buf (Elt F) ℓ) (ρ : Dev nD → PrngReg)

/-! ## What the launch deals -/

theorem unscopedSems0_eq (c : Dev nD) : (unscopedSems0 c : sProp 𝕄) = semVal (cell none c) 0 := by
  unfold unscopedSems0
  rw [show (Finset.univ.filter fun sm : SemLoc sig => ¬ sm.isScoped .tc) = {csem none} from by decide, BI.bigSep_singleton]

/-- The launch element: the pipeline's own at the staging cells, the exchange's at its cells and duties. -/
def u₀ : UU :=
  (initOf (Pipeline.cells (Pipeline.pin (pcfgs (F := F)) adm) cellOf_inj) (Pipeline.launchToks (Pipeline.pin (pcfgs (F := F)) adm) cellOf_inj),
    launchOf barCells ownCells duties)

/-- The exchange's element whole, kept with device 0 until it is dealt. -/
def parked (c : Dev nD) : sProp 𝕄 := if c = 0 then BI.own (ER (launchOf barCells ownCells duties)) else iprop(emp)

theorem bigSep_parked : (bigSep Finset.univ parked : sProp 𝕄) = BI.own (ER (launchOf barCells ownCells duties)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- A device's share of the exchange's ghost state: its place at its barrier, the rights to open its own cells, and the tokens it pays with. -/
def dealt (c : Dev nD) : sProp 𝕄 :=
  iprop(atPos ER (cell none c) 0 ∅ 0
    ∗ (bigSep Finset.univ fun i : Fin 10 => iprop(openTok ER (cell (some (.inl i)) c) ∗ openTok ER (cell (some (.inr i)) c)))
    ∗ payTok c)

/-- The rest of what it is launched with. -/
def others (c : Dev nD) : sProp 𝕄 :=
  iprop(StableHlo.held (c : Thread nD τ) bufs (V₀ m c)
    ∗ (cred (tallyAt (cell none c) () 2) ∗ bigSep Finset.univ fun i : Fin 10 => cred (tallyAt (cell (some (.inr i)) c) () (amt i)))
    ∗ owes (c : Thread nD τ) (O₀ c) ∅ ∗ ∃ r, prngReg c r)

/-- What a device's program starts from, and what it ends with. -/
abbrev first (c : Dev nD) : sProp 𝕄 := iprop(StableHlo.held (c : Thread nD τ) bufs (V₀ m c) ∗ beside m c)
abbrev final (c : Dev nD) : sProp 𝕄 := iprop(StableHlo.held (c : Thread nD τ) bufs (V₂ m c) ∗ semVal (cell none c) 0)

theorem first_intro (K : Dev nD × Ck → ℕ) (c : Dev nD) : iprop(invs (inp m) K ∗ (dealt c ∗ others m c)) ⊢ first m c := by
  unfold first beside closedT dealt others payTok barTok waitTok lnkClosed
  iintro ⟨#HR, ⟨Hat, Hop, Ht, Hpay⟩, Hh, ⟨Hc, Hcr⟩, HO, Hp⟩
  isplitl [Hh]; · iexact Hh
  isplitr [HO]
  · isplitr [Hp]
    · isplitr; · iexists K; iexact HR
      isplitl [Ht Hat Hc]
      · isplitl [Ht]; · iexact Ht
        isplitl [Hat]; · iexact Hat
        iexact Hc
      iapply bigSep_pair
      isplitl [Hop]; · iexact Hop
      iapply bigSep_pair
      isplitl [Hpay]; · iexact Hpay
      iexact Hcr
    · iexact Hp
  · iexists ∅; iexact HO

/-- What a device is launched with, sorted. -/
theorem launched (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parked c)
    ⊢ (iprop(others m c ∗ (semVal (cell none c) 0 ∗ parked c)) : sProp 𝕄) := by
  rw [show unscopedBufs c (fun b => m ((c : Thread nD τ).loc b)) = StableHlo.held (c : Thread nD τ) bufs (V₀ m c) from unscopedBufs_held c (V₀ m c),
    unscopedSems0_eq]
  unfold others
  iintro ⟨Hh, Hs, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hs] <;> iassumption

/-- All the cells' invariants and the barriers' first rounds are the records the devices consult. -/
theorem invs_intro (I : Dev nD → Inp F) (κ : GSem nD τ sig → ℕ) :
    iprop((bigSep (barCells ∪ ownCells) fun g => cellInv ER (Rd I) (κ g) g) ∗ bigSep barCells fun g => reached ER g 0)
      ⊢ (invs I (fun p => κ (cell p.2 p.1)) : sProp 𝕄) := by
  have h1 : (bigSep (barCells ∪ ownCells) fun g => (cellInv ER (Rd I) (κ g) g : sProp 𝕄))
      ⊢ bigSep Finset.univ fun p : Dev nD × Ck => cellInv ER (Rd I) (κ (cell p.2 p.1)) (cell p.2 p.1) :=
    bigSep_intro_persistent fun p _ => bigSep_elim (cell_mem p)
  have h2 : (bigSep barCells fun g => (reached ER g 0 : sProp 𝕄)) ⊢ bigSep Finset.univ fun d : Dev nD => reached ER (cell none d) 0 :=
    Entails.of_eq (bigSep_map (s := Finset.univ) barEmb (Φ := fun g : GSem nD τ sig => (reached ER g 0 : sProp 𝕄)))
  unfold invs
  iintro ⟨H1, H2⟩
  isplitl [H1]
  · iapply h1; iexact H1
  · iapply h2; iexact H2

/-- From the launch's state to what every device's program starts from. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (first m) : sProp 𝕄) := by
  have hl : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(others m c ∗ (semVal (cell none c) 0 ∗ parked c)) : sProp 𝕄) :=
    bigSep_mono fun c _ => launched m ρ c
  have hv : bigSep Finset.univ (fun c : Dev nD => (semVal (cell none c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell none c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD =>
      bigSep Finset.univ fun i : Fin 10 => iprop(openTok ER (cell (some (.inl i)) c) ∗ openTok ER (cell (some (.inr i)) c))) :=
    Entails.of_eq (by
      rw [bigSep_map, bigSep_univ_prod]
      exact bigSep_congr fun c _ => by rw [bigSep_univ_sum, bigSep_sep']; rfl)
  iintro ⟨H, -⟩
  ihave H := hl $$ H
  ihave H := bigSep_unpair $$ H; icases H with ⟨HB, H⟩
  ihave H := bigSep_unpair $$ H; icases H with ⟨Hv, HG⟩
  ihave Hu := (show bigSep Finset.univ (parked (F := F)) ⊢ BI.own (ER (launchOf barCells ownCells duties)) from Entails.of_eq bigSep_parked) $$ HG
  imod (Rounds.fund_launch ER (Rd (inp m)) disjoint_cells (fun g _ h => h) duties) $$ [Hv Hu] with ⟨%κ, -, #Hinv, #Hr, Hat, Hopen, Htok⟩
  · isplitl [Hv]
    · iapply hv $$ Hv
    · iexact Hu
  imodintro
  iapply (bigSep_with_persistent (R := invs (inp m) (fun p => κ (cell p.2 p.1))) (Φ := fun c => iprop(dealt c ∗ others m c)) fun c _ => first_intro m _ c)
  isplitr
  · iapply (invs_intro (inp m) κ)
    isplitr; · iexact Hinv
    iexact Hr
  iapply bigSep_pair
  isplitr [HB]
  · unfold dealt
    iapply bigSep_pair; isplitl [Hat]; · iapply hat $$ Hat
    iapply bigSep_pair; isplitl [Hopen]; · iapply hopen $$ Hopen
    iapply (Entails.of_eq (deal_duties (F := F))) $$ Htok
  · iexact HB

/-! ## The program -/

theorem ops_sub : ∀ op ∈ (hostOps0 : List (HloOp τ sig (Elt F))), op.bufs ⊆ bufs := fun op h => by
  rcases List.mem_cons.mp h with rfl | h
  · show ({Proc.devRef .tc main_arg2, Proc.devRef .tc main_v1} : Finset (DevRef τ sig)) ⊆ bufs; decide
  · rw [List.mem_singleton.mp h]
    show ({Proc.devRef .tc main_arg3, Proc.devRef .tc main_v2} : Finset (DevRef τ sig)) ⊆ bufs; decide
theorem ops_fresh : ∀ op ∈ (hostOps0 : List (HloOp τ sig (Elt F))), op.fresh = ∅ := List.forall_iff_forall_mem.mp hostOps0_fresh

/-- The two reshapes, everything else riding along. -/
def seg0 : Pipeline.HostSeg (Name := ℕ) (U := UU) (pcfgs (F := F)) defs₀ 𝒱₀ L lv :=
  Pipeline.HostSeg.ofOps _ _ _ _ _ bufs hostOps0 ops_sub ops_fresh (V₀ m) (beside m)

variable [∀ e, Nonempty (Elt F e)]

def segs : List (Pipeline.Seg (pcfgs (F := F)) adm (pdats m) () defs₀ 𝒱₀ L lv) := [.host (seg0 m), .region (reg m)]

theorem main_eq (c : Dev nD) : main (F := F) c = Pipeline.Seg.run (segs m) :=
  main_segs adm (pdats m) () 𝒱₀ L lv (seg0 m) (reg m) rfl c

theorem unscoped_eq : ∀ sm : SemLoc sig, sm.isScoped .tc = false → sm = csem none := by decide

/-- Where a device's result and arguments lie. -/
abbrev at_ (c : Dev nD) (b : Ref sig .tc) (W : Valuation τ sig (Elt F)) : sProp 𝕄 := iprop(((c : Thread nD τ).loc b) ↦{fullShare} W b)

theorem bufs_eq (c : Dev nD) (W : Valuation τ sig (Elt F)) : (StableHlo.held (c : Thread nD τ) bufs W : sProp 𝕄)
    = iprop(at_ c main_arg0 W ∗ at_ c main_arg1 W ∗ at_ c main_arg2 W ∗ at_ c main_arg3 W ∗ at_ c main_arg4 W ∗ at_ c main_v1 W ∗ at_ c main_v2 W ∗ at_ c main_v3 W) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

set_option backward.isDefEq.respectTransparency.types false in
/-- The run: from any memory with every counter at zero, the program on the four devices terminates under every weakly
    fair schedule; each device's result is the kernel's value of all four devices' operands, its arguments are as they were,
    and every counter is at zero again. -/
theorem run_main : θ_run defs (onTc (τ := τ) (main (F := F))) (s₀ m ρ)
    (fun r => (∀ c : Dev nD, r.2.mem ((c : Thread nD τ).loc main_v3) = out (inp m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [bigSep_parked]; iexact HX)
    (T₀ := first m) (Tₙ := final m)
    (hch := ⟨fun c => .rfl, fun c => reg_pre m c, fun c => reg_post m c⟩)
    (hinit := init m ρ)
    (QY := fun c s => (s.mem ((c : Thread nD τ).loc main_v3) = V₂ m c main_v3 ∧ s.mem ((c : Thread nD τ).loc main_arg0) = V₂ m c main_arg0
      ∧ s.mem ((c : Thread nD τ).loc main_arg1) = V₂ m c main_arg1 ∧ s.mem ((c : Thread nD τ).loc main_arg2) = V₂ m c main_arg2
      ∧ s.mem ((c : Thread nD τ).loc main_arg3) = V₂ m c main_arg3 ∧ s.mem ((c : Thread nD τ).loc main_arg4) = V₂ m c main_arg4) ∧ s.sem (cell none c) = 0)
    (hfin := fun c s' => by
      dsimp only [final]; rw [bufs_eq]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h5, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨h5, h0, h1, h2, h3, h4⟩, -⟩ := h c
        exact ⟨h5.trans (V₂_out m c), h0.trans ((V₂_of_ne m c (by decide)).trans (V_main_arg0 m c)),
          h1.trans ((V₂_of_ne m c (by decide)).trans (V_main_arg1 m c)), h2.trans ((V₂_of_ne m c (by decide)).trans (V_main_arg2 m c)),
          h3.trans ((V₂_of_ne m c (by decide)).trans (V_main_arg3 m c)), h4.trans ((V₂_of_ne m c (by decide)).trans (V_main_arg4 m c))⟩,
      sem_eq_zero hs fun c sm hsm => by
        obtain rfl := unscoped_eq sm hsm
        exact (h c).2⟩)

end Cert.KernelIdeal.Run

end
-- ==== Proof.Frames.lean ====
/- The frames of the three programs and the two named constants of the idealized kernel. -/
module

public import proofs.«01_k».proof.Defs
public import proofs.«01_k».proof.Proof.Kernel.Main
public import proofs.«01_k».proof.Proof.KernelIdeal.Main
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent

@[expose] public section

noncomputable section

namespace Cert.Proof

open Idealize.ShloMosaic Idealize.SL.Sem

/-- The kernel runs at the bit patterns: every device ends, its arguments unchanged and every counter at zero. -/
theorem frame_kernel : Cert.quiescent_Kernel := fun m ρ _ =>
  (θ_run Cert.Kernel.defs _ _).mono (fun _ h => ⟨fun c => (h.1 c).2, h.2⟩) (Cert.Kernel.Run.run_main (F := Bits) m ρ)

/-- The idealized kernel runs at the extended reals, its arguments unchanged and every counter at zero. -/
theorem frame_kernelIdeal : Cert.quiescent_KernelIdeal := fun m ρ _ =>
  (θ_run Cert.KernelIdeal.defs _ _).mono (fun _ h => ⟨fun c => (h.1 c).2, h.2⟩)
    (Cert.KernelIdeal.Run.run_main (F := Ideal) m ρ)

/-- The same of the idealized kernel from finite arguments. -/
theorem frame_kernelIdeal_finite : Cert.quiescent_KernelIdeal_pre_finite_KernelIdeal := fun m ρ _ =>
  frame_kernelIdeal m ρ trivial

/-- The idealized reference runs, its arguments unchanged; it has no counters. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same of the idealized reference from finite arguments. -/
theorem frame_referenceIdeal_finite : Cert.quiescent_ReferenceIdeal_pre_finite_ReferenceIdeal := fun m ρ _ =>
  frame_referenceIdeal m ρ trivial

/-- The kernel's two named constants: the scale is the reciprocal root of 128, the mask is minus infinity. -/
theorem preserves : Cert.preserves_Kernel_KernelIdeal :=
  ⟨IdealRules.named_const.statement Cert.KernelIdeal.κ "scale" .bf16 0x3DB5#16 (((Real.sqrt 128)⁻¹ : ℝ) : EReal) rfl,
    IdealRules.named_const.statement Cert.KernelIdeal.κ "mask" .f32 0xCE6E6B28#32 ⊥ rfl⟩

end Cert.Proof

end
-- ==== Proof.Value.Words.lean ====
/-
# The mask's words

Query row `r` may see key `j` when their blocks of 64 agree, when the key's block is the first one, or when the two
block numbers add up to a multiple of three (`att`). Both programs compute that on 32-bit words: a floor division by 64
(the quotient, less one when the signs differ and the remainder is not zero) and a remainder by 3 brought into `[0, 3)`.
On the words that occur here, natural numbers below 4096, 16 and 64, each is the operation on natural numbers.
-/
module

public import Idealize.ShloMosaic.PureOps.Vector
public import Idealize.ShloMosaic.Lib.Pointwise

@[expose] public section

set_option maxRecDepth 16384

namespace Cert.Value

open Idealize.ShloMosaic

/-- Whether a query of block `a` sees a key of block `b`. -/
def att (a b : ℕ) : Bool := a == b || b == 0 || (a + b) % 3 == 0

/-- The floor division by 64 with the sign read off two comparisons, as the kernel computes it. -/
def fdivK (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- The sign of a word, as the reference takes it. -/
def sgn (x : BitVec 32) : BitVec 32 := if x = 0 then 0 else if x.msb then -1 else 1

/-- The floor division by 64 with the sign function, as the reference computes it. -/
def fdivR (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

/-- The remainder by three brought into `[0, 3)`, from the machine's remainder `m`. -/
def mod3 (m : BitVec 32) : BitVec 32 :=
  Scalar.select (IntOp.andi (IntOp.xori (IntOp.cmpi .slt m 0#32) (IntOp.cmpi .slt 3#32 0#32)) (IntOp.cmpi .ne m 0#32)) (IntOp.addi m 3#32) m

/-- The mask bit of two block numbers, from the machine's remainder of their sum by three. -/
def attW (a b m : BitVec 32) : BitVec 1 :=
  IntOp.ori (IntOp.ori (IntOp.cmpi .eq a b) (IntOp.cmpi .eq b 0#32)) (IntOp.cmpi .eq (mod3 m) 0#32)

/-- The kernel's floor division of a word below 4096. -/
theorem fdivK_ofNat : ∀ n : Fin 4096, fdivK (BitVec.ofNat 32 n.val) = BitVec.ofNat 32 (n.val / 64) := by decide +kernel

/-- The reference's floor division of a word below 4096. -/
theorem fdivR_ofNat : ∀ n : Fin 4096, fdivR (BitVec.ofNat 32 n.val) = BitVec.ofNat 32 (n.val / 64) := by decide +kernel

/-- The kernel's mask bit on block numbers is `att`. -/
theorem attW_vector : ∀ (a : Fin 16) (b : Fin 64),
    attW (BitVec.ofNat 32 a.val) (BitVec.ofNat 32 b.val)
      (IntOp.remsi .vector (IntOp.addi (BitVec.ofNat 32 a.val) (BitVec.ofNat 32 b.val)) 3#32) = BitVec.ofBool (att a.val b.val) := by
  decide +kernel

/-- The reference's mask bit on block numbers is `att`. -/
theorem attW_host : ∀ (a : Fin 16) (b : Fin 64),
    attW (BitVec.ofNat 32 a.val) (BitVec.ofNat 32 b.val)
      (IntOp.remsi .host (IntOp.addi (BitVec.ofNat 32 a.val) (BitVec.ofNat 32 b.val)) 3#32) = BitVec.ofBool (att a.val b.val) := by
  decide +kernel

/-- Two bits differ when their exclusive or is set. -/
theorem ne_bit : ∀ p q : BitVec 1, IntOp.cmpi .ne p q = IntOp.xori p q := by decide

/-- A disjunction of bits one of which is set. -/
theorem fold_ori_of_mem {ι : Type} [DecidableEq ι] (s : Finset ι) (f : ι → BitVec 1) (a : ι) (ha : a ∈ s) (h : f a = 1#1) :
    Finset.fold IntOp.ori 0#1 f s = 1#1 := by
  rw [← Finset.insert_erase ha, Finset.fold_insert (Finset.notMem_erase a s), h]
  generalize Finset.fold IntOp.ori 0#1 f (s.erase a) = b
  revert b; decide

/-- Where every row looks: the first block of keys. -/
theorem att_zero (a : ℕ) : att a 0 = true := by simp [att]

/-- A selection by a decided bit. -/
theorem select_ofBool {α : Type} (b : Bool) (x y : α) : Scalar.select (BitVec.ofBool b) x y = if b then x else y := by
  cases b <;> simp [Scalar.select]

end Cert.Value
-- ==== Proof.Value.RefTerm.lean ====
/-
# The reference's value, named part by part

The reference's run leaves one composed term in its result buffer. Here its repeated parts get names: the block
numbers, the mask, the masked scores, their exponentials, the sums and the normalised weights.
-/
module

public import proofs.«01_k».proof.Proof.Gen.ReferenceIdeal.Run
public import proofs.«01_k».proof.Proof.Value.Words
public import Idealize.ShloMosaic.Lib.Pointwise

@[expose] public section

set_option maxRecDepth 16384

noncomputable section

namespace Cert.ReferenceIdeal.Value

open Cert.ReferenceIdeal Cert.ReferenceIdeal.Gen Cert.Value
open Idealize.ShloMosaic

/-- The block number of each query row. -/
def rowBlock : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

/-- The block number of each key. -/
def keyBlock : IVec S4096 32 :=
  select (andi (cmpi .ne (signi (iotaInDim S4096 32 0)) (broadcastInDim S4096 ![] bcast_S_S4096 (signi (constantI S_ 32 64#32))))
      (cmpi .ne (Host.remsi (iotaInDim S4096 32 0) (broadcastInDim S4096 ![] bcast_S_S4096 (constantI S_ 32 64#32)))
        (broadcastInDim S4096 ![] bcast_S_S4096 (constantI S_ 32 0#32))))
    (subi (Host.divsi (iotaInDim S4096 32 0) (broadcastInDim S4096 ![] bcast_S_S4096 (constantI S_ 32 64#32)))
      (broadcastInDim S4096 ![] bcast_S_S4096 (constantI S_ 32 1#32)))
    (Host.divsi (iotaInDim S4096 32 0) (broadcastInDim S4096 ![] bcast_S_S4096 (constantI S_ 32 64#32)))

/-- Both, at every pair of a query and a key. -/
def rowB : IVec S1024x4096 32 :=
  broadcastInDim S1024x4096 ![0, 1] bcast_S1024x1_S1024x4096_0_1 (broadcastInDim S1024x1 ![0] bcast_S1024_S1024x1_0 rowBlock)
def keyB : IVec S1024x4096 32 :=
  broadcastInDim S1024x4096 ![0, 1] bcast_S1x4096_S1024x4096_0_1 (broadcastInDim S1x4096 ![1] bcast_S4096_S1x4096_1 keyBlock)

/-- The divisor three, and the machine's remainder of the block numbers' sum by it. -/
def three : IVec S_ 32 := select (cmpi .eq (constantI S_ 32 3#32) (constantI S_ 32 0#32)) (constantI S_ 32 1#32) (constantI S_ 32 3#32)
def threeB : IVec S1024x4096 32 := broadcastInDim S1024x4096 ![] bcast_S_S1024x4096 three
def rem : IVec S1024x4096 32 := Host.remsi (addi rowB keyB) threeB

/-- The mask. -/
def mask : IVec S1024x4096 1 :=
  ori (ori (cmpi .eq rowB keyB) (broadcastInDim S1024x4096 ![0, 1] bcast_S1x4096_S1024x4096_0_1
      (cmpi .eq (broadcastInDim S1x4096 ![1] bcast_S4096_S1x4096_1 keyBlock) (broadcastInDim S1x4096 ![] bcast_S_S1x4096 (constantI S_ 32 0#32)))))
    (cmpi .eq (select (andi (cmpi .ne (cmpi .slt rem (broadcastInDim S1024x4096 ![] bcast_S_S1024x4096 (constantI S_ 32 0#32)))
          (broadcastInDim S1024x4096 ![] bcast_S_S1024x4096 (cmpi .slt three (constantI S_ 32 0#32))))
        (cmpi .ne rem (broadcastInDim S1024x4096 ![] bcast_S_S1024x4096 (constantI S_ 32 0#32)))) (addi rem threeB) rem)
      (broadcastInDim S1024x4096 ![] bcast_S_S1024x4096 (constantI S_ 32 0#32)))

/-- Whether a row sees any key. -/
def keep : IVec S1024 1 := Host.reduce IntOp.ori mask (constantI S_ 1 0#1) reducesTo_S1024x4096_S1024_d1 h_S_

section Floats
variable (x : Vec Ideal S1x1024x1024 .bf16) (wq : Vec Ideal S1024x1024 .bf16) (k v : Vec Ideal S1x4096x8x128 .bf16) (wo : Vec Ideal S1024x1024 .bf16)

/-- The masked scores. -/
def scores : FVec Ideal S1x8x1024x4096 .f32 :=
  select (broadcastInDim S1x8x1024x4096 ![0, 1, 2, 3] bcast_S1x1x1024x4096_S1x8x1024x4096_0_1_2_3
      (broadcastInDim S1x1x1024x4096 ![2, 3] bcast_S1024x4096_S1x1x1024x4096_2_3 mask))
    (Host.divf (Host.dotGeneral dot_S1x1024x8x128_S1x4096x8x128_S1x8x1024x4096_3_3_1_1_02_02 none
        (shapeCast _ (Host.dotGeneral dot_S1x1024x1024_S1024x1024_S1x1024x1024_2_0_01_1_n_n none (extf .f32 x bitsLt_bf16_f32)
          (extf .f32 wq bitsLt_bf16_f32)) shapeCasts_S1x1024x1024_S1x1024x8x128) (extf .f32 k bitsLt_bf16_f32))
      (broadcastInDim S1x8x1024x4096 ![] bcast_S_S1x8x1024x4096 (Host.sqrt (constant S_ .f32 0x43000000#32))))
    (broadcastInDim S1x8x1024x4096 ![] bcast_S_S1x8x1024x4096 (constant S_ .f32 0xFF800000#32))

/-- Each row's greatest score. -/
def top : FVec Ideal S1x8x1024 .f32 :=
  Host.reduce FloatOps.maximumf (scores x wq k) (constant S_ .f32 0xFF800000#32) reducesTo_S1x8x1024x4096_S1x8x1024_d3 h_S_

/-- The exponentials of the scores less their row's greatest. -/
def expo : FVec Ideal S1x8x1024x4096 .f32 :=
  Host.exp (subf (scores x wq k) (broadcastInDim S1x8x1024x4096 ![0, 1, 2, 3] bcast_S1x8x1024x1_S1x8x1024x4096_0_1_2_3
    (broadcastInDim S1x8x1024x1 ![0, 1, 2] bcast_S1x8x1024_S1x8x1024x1_0_1_2 (top x wq k))))

/-- The divisors: the row sums, or one for a row that sees nothing. -/
def total : FVec Ideal S1x8x1024x1 .f32 :=
  select (broadcastInDim S1x8x1024x1 ![0, 1, 2, 3] bcast_S1x1x1024x1_S1x8x1024x1_0_1_2_3 (broadcastInDim S1x1x1024x1 ![2] bcast_S1024_S1x1x1024x1_2 keep))
    (broadcastInDim S1x8x1024x1 ![0, 1, 2] bcast_S1x8x1024_S1x8x1024x1_0_1_2
      (Host.reduceAdd (expo x wq k) (constant S_ .f32 0x00000000#32) reducesTo_S1x8x1024x4096_S1x8x1024_d3 h_S_))
    (broadcastInDim S1x8x1024x1 ![] bcast_S_S1x8x1024x1 (constant S_ .f32 0x3F800000#32))

/-- The normalised weights, nothing for a row that sees nothing. -/
def weights : FVec Ideal S1x8x1024x4096 .f32 :=
  select (broadcastInDim S1x8x1024x4096 ![0, 1, 2, 3] bcast_S1x1x1024x1_S1x8x1024x4096_0_1_2_3 (broadcastInDim S1x1x1024x1 ![2] bcast_S1024_S1x1x1024x1_2 keep))
    (Host.divf (expo x wq k) (broadcastInDim S1x8x1024x4096 ![0, 1, 2, 3] bcast_S1x8x1024x1_S1x8x1024x4096_0_1_2_3 (total x wq k)))
    (broadcastInDim S1x8x1024x4096 ![] bcast_S_S1x8x1024x4096 (constant S_ .f32 0x00000000#32))

/-- The result. -/
def result : FVec Ideal S1x1024x1024 .f32 :=
  Host.dotGeneral dot_S1x1024x1024_S1024x1024_S1x1024x1024_2_0_01_1_n_n none
    (shapeCast _ (transpose S1x1024x8x128 [0, 3, 1, 2]
      (Host.dotGeneral dot_S1x4096x8x128_S1x8x1024x4096_S1x8x128x1024_1_3_3_2_02_01 none (extf .f32 v bitsLt_bf16_f32) (weights x wq k))
      transposes_S1x8x128x1024_S1x1024x8x128_0_3_1_2) shapeCasts_S1x1024x8x128_S1x1024x1024) (extf .f32 wo bitsLt_bf16_f32)

end Floats

/-- The run's composed term is the result. -/
theorem res_eq (m : (ℓ : Loc nD τ sig) → Buf (Elt Ideal) ℓ) (c : Dev nD) :
    res_main_v50 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Value

end
-- ==== Proof.Value.Mask.lean ====
/-
# The kernel's bias

The bias a device adds to its scores: nothing where the query sees the key, negative infinity elsewhere. Device `c`
holds the keys `1024·c` and on.
-/
module

public import proofs.«01_k».proof.Proof.KernelIdeal.Contents
public import proofs.«01_k».proof.Proof.Value.Words
public import Idealize.ShloMosaic.Lib.Pointwise

@[expose] public section

set_option maxRecDepth 16384

namespace Cert.KernelIdeal.Value

open Cert.KernelIdeal Cert.KernelIdeal.Gen Cert.KernelIdeal.Run Cert.Value
open Idealize.ShloMosaic

/-- The kernel's mask literal is negative infinity. -/
theorem mask_eq : Named.named (F := Ideal) κ "mask" (φ := .f32) 0xCE6E6B28#32 = (⊥ : EReal) :=
  IdealRules.named_const.ideal_named_scalar _ _ _ _ rfl

/-- The word that numbers a device's block of keys. -/
theorem myw_eq : ∀ c : Dev nD, myw c = BitVec.ofNat 32 c.val := by decide +kernel

/-- The block number of a query row. -/
theorem pay4_apply (r j : Fin 1024) :
    k0_pay4 (iota .tc S1024x1024 32 [0] iota_S1024x1024_d0_w32) 64#32 k0_pay2 k0_pay3 (ix2 r j) = BitVec.ofNat 32 (r.val / 64) := by
  rw [← fdivK_ofNat ⟨r.val, by omega⟩]
  pointwise [k0_pay4, k0_pay2, k0_pay3, fdivK]

/-- The block number of a device's key. -/
theorem pay5_apply (c : Dev nD) (r j : Fin 1024) :
    k0_pay5 (myw c) (ix2 r j) = BitVec.ofNat 32 ((1024 * c.val + j.val) / 64) := by
  have h : IntOp.addi (BitVec.ofNat 32 j.val) (Scalar.muli (BitVec.ofNat 32 c.val) 1024#32) = BitVec.ofNat 32 (1024 * c.val + j.val) := by
    have : (1024#32 : BitVec 32) = BitVec.ofNat 32 1024 := rfl
    simp only [IntOp.addi, Scalar.muli, IntOp.muli, this, ← BitVec.ofNat_mul, ← BitVec.ofNat_add]
    congr 1; omega
  rw [← fdivK_ofNat ⟨1024 * c.val + j.val, by have := c.isLt; have : c.val < 4 := c.isLt; omega⟩, myw_eq]
  pointwise [k0_pay5, fdivK, h]

/-- The bias. -/
theorem bias_apply (c : Dev nD) (r j : Fin 1024) :
    bias (F := Ideal) c (ix2 r j) = if att (r.val / 64) ((1024 * c.val + j.val) / 64) then 0 else ⊥ := by
  have hc : c.val < 4 := c.isLt
  have h := attW_vector ⟨r.val / 64, by omega⟩ ⟨(1024 * c.val + j.val) / 64, by omega⟩
  dsimp only at h
  rw [← select_ofBool, ← h]
  have hw : w77 = 3#32 := by decide
  have e6 : m74 c (ix2 r j) = IntOp.ori (IntOp.cmpi .eq (BitVec.ofNat 32 (r.val / 64)) (BitVec.ofNat 32 ((1024 * c.val + j.val) / 64)))
      (IntOp.cmpi .eq (BitVec.ofNat 32 ((1024 * c.val + j.val) / 64)) 0#32) := by
    pointwise [m74, k0_pay6, pay5_apply]
    rw [pay4_apply]
  have e7 : m79 c (ix2 r j) = IntOp.remsi .vector (IntOp.addi (BitVec.ofNat 32 (r.val / 64)) (BitVec.ofNat 32 ((1024 * c.val + j.val) / 64))) 3#32 := by
    pointwise [m79, k0_pay7, pay5_apply]
    rw [pay4_apply]
    rfl
  pointwise [bias, k0_pay8, hw, e6, e7, mask_eq, attW, mod3]
  rfl

end Cert.KernelIdeal.Value
-- ==== Proof.Value.Heads.lean ====
/-
# What a device computes for a head

A device's queries, and for each head its unnormalised attention weights over its own keys, the context they give and
their sums per row, read at an index.
-/
module

public import proofs.«01_k».proof.Proof.Value.Mask

@[expose] public section

set_option maxRecDepth 16384

noncomputable section

namespace Cert.KernelIdeal.Value

open Cert.KernelIdeal Cert.KernelIdeal.Gen Cert.KernelIdeal.Run Cert.Value
open Idealize.ShloMosaic

/-- The kernel's scale is the reciprocal of the square root of 128. -/
theorem scale_eq : Named.named (F := Ideal) κ "scale" (φ := .bf16) 0x3DB5#16 = (((Real.sqrt 128)⁻¹ : ℝ) : EReal) :=
  IdealRules.named_const.ideal_named_scalar _ _ _ _ rfl

variable (i : Inp Ideal) (c : Dev nD)

/-- The projected and scaled queries. -/
theorem q_apply (r l : Fin 1024) :
    q i (ix2 r l) = ∑ e : Fin 1024, i.x (ix3 0 r e) * (i.wq (ix2 e l) * (((Real.sqrt 128)⁻¹ : ℝ) : EReal)) := by
  pointwise [q, k0_pay1, scale_eq]

/-- Column `d` of head `h`. -/
def col (h : Fin 8) (d : Fin 128) : Fin 1024 := ⟨128 * h.val + d.val, by omega⟩

/-- A head's columns lie within the block. -/
theorem col_lt {o : Nat} (h : ∀ a, (![0, o] : Fin 2 → Nat) a + (![1024, 128] : Fin 2 → Nat) a ≤ S1024x1024.size a) (d : Fin 128) :
    o + d.val < 1024 := by
  have h1 : o + 128 ≤ 1024 := h 1
  omega

/-- A head's columns, counted in the block. -/
theorem cols_apply (o : Nat)
    (h : ∀ a, (![0, o] : Fin 2 → Nat) a + (![1024, 128] : Fin 2 → Nat) a ≤ S1024x1024.size a) (j : Fin 1024) (d : Fin 128) :
    (Rect.unit (s := S1024x1024) ![0, o] ![1024, 128] h).emb (ix2 j d) = ix2 j ⟨o + d.val, col_lt h d⟩ := by
  funext a
  apply Fin.ext
  match a with
  | ⟨0, _⟩ => simp [Rect.unit, Rect.emb, ix2]
  | ⟨1, _⟩ => simp [Rect.unit, Rect.emb, ix2]

/-- The weight of query `r` on the device's key `j`. -/
def wt (h : Fin 8) (r j : Fin 1024) : EReal :=
  Ideal.exp ((∑ d : Fin 128, q i (ix2 r (col h d)) * i.k (ix2 j (col h d))) + bias (F := Ideal) c (ix2 r j))

/-- The context of the device's keys. -/
def ctx (h : Fin 8) (r : Fin 1024) (d : Fin 128) : EReal := ∑ j : Fin 1024, wt i c h r j * i.v (ix2 j (col h d))

/-- The row sum over the device's keys. -/
def rs (h : Fin 8) (r : Fin 1024) : EReal := ∑ j : Fin 1024, wt i c h r j

/-- The heads' contexts. -/
theorem h_apply (r : Fin 1024) (d : Fin 128) :
    h0 i c (ix3 0 r d) = ctx i c 0 r d ∧ h1 i c (ix3 0 r d) = ctx i c 1 r d ∧ h2 i c (ix3 0 r d) = ctx i c 2 r d ∧
      h3 i c (ix3 0 r d) = ctx i c 3 r d ∧ h4 i c (ix3 0 r d) = ctx i c 4 r d ∧ h5 i c (ix3 0 r d) = ctx i c 5 r d ∧
      h6 i c (ix3 0 r d) = ctx i c 6 r d ∧ h7 i c (ix3 0 r d) = ctx i c 7 r d := by
  refine ⟨?_, ?_, ?_, ?_, ?_, ?_, ?_, ?_⟩ <;>
    pointwise [h0, h1, h2, h3, h4, h5, h6, h7, k0_pay9, k0_pay10, k0_pay12, k0_pay13, k0_pay14, k0_pay16, k0_pay17, k0_pay18, k0_pay20,
      k0_pay21, k0_pay23, k0_pay24, k0_pay25, k0_pay27, k0_pay28, k0_pay31, k0_pay32, k0_pay34, k0_pay35, k0_pay36, kc, vc, cols, cols_apply, ctx, wt, col, bias]

/-- The heads' row sums. -/
theorem r_apply (r : Fin 1024) :
    r0 i c (ix2 r 0) = rs i c 0 r ∧ r1 i c (ix2 r 0) = rs i c 1 r ∧ r2 i c (ix2 r 0) = rs i c 2 r ∧ r3 i c (ix2 r 0) = rs i c 3 r ∧
      r4 i c (ix2 r 0) = rs i c 4 r ∧ r5 i c (ix2 r 0) = rs i c 5 r ∧ r6 i c (ix2 r 0) = rs i c 6 r ∧ r7 i c (ix2 r 0) = rs i c 7 r := by
  refine ⟨?_, ?_, ?_, ?_, ?_, ?_, ?_, ?_⟩ <;>
    pointwise [r0, r1, r2, r3, r4, r5, r6, r7, k0_pay9, k0_pay11, k0_pay12, k0_pay15, k0_pay16, k0_pay19, k0_pay20, k0_pay22, k0_pay23,
      k0_pay24, k0_pay26, k0_pay27, k0_pay29, k0_pay31, k0_pay33, k0_pay34, k0_pay37, kc, vc, cols, cols_apply, rs, wt, col, bias]

end Cert.KernelIdeal.Value

end
-- ==== Proof.Value.Mesh.lean ====
/-
# The kernel's result

Over the mesh: a chunk's context summed over the four devices, the row sums summed over the four devices, and the
result, which is the quotients' product with the output weights, head by head.
-/
module

public import proofs.«01_k».proof.Proof.Value.Heads

@[expose] public section

set_option maxRecDepth 16384

noncomputable section

namespace Cert.KernelIdeal.Value

open Cert.KernelIdeal Cert.KernelIdeal.Gen Cert.KernelIdeal.Run Cert.Value
open Idealize.ShloMosaic

/-- Adding over one pairing of the devices and then over the other adds over all of them. -/
theorem dev_sum (f : Dev nD → EReal) : ∀ c, f c + f (p1 c) + (f (p2 c) + f (p1 (p2 c))) = ∑ d : Dev nD, f d
  | 0 => by rw [show (∑ d : Dev nD, f d) = f 0 + f 1 + f 2 + f 3 from Fin.sum_univ_four f]; simp only [p1, p2]; ac_rfl
  | 1 => by rw [show (∑ d : Dev nD, f d) = f 0 + f 1 + f 2 + f 3 from Fin.sum_univ_four f]; simp only [p1, p2]; ac_rfl
  | 2 => by rw [show (∑ d : Dev nD, f d) = f 0 + f 1 + f 2 + f 3 from Fin.sum_univ_four f]; simp only [p1, p2]; ac_rfl
  | 3 => by rw [show (∑ d : Dev nD, f d) = f 0 + f 1 + f 2 + f 3 from Fin.sum_univ_four f]; simp only [p1, p2]; ac_rfl

/-- The two partners in either order. -/
theorem p2_p1 : ∀ c, p2 (p1 c) = p1 (p2 c) := by decide

/-- The same with the pairings exchanged. -/
theorem dev_sum' (f : Dev nD → EReal) (c : Dev nD) : f c + f (p2 c) + (f (p1 c) + f (p2 (p1 c))) = ∑ d : Dev nD, f d := by
  rw [← dev_sum f c, p2_p1]; ac_rfl

/-- The first half of a slot. -/
theorem cat_left (w0 w1 : Vec Ideal S1x1024x128 .bf16) (r : Fin 1024) (d : Fin 128) (h : d.val < 256) :
    Cat.cat w0 w1 (ix3 0 r ⟨d.val, h⟩) = w0 (ix3 0 r d) := by
  have e : Cat.col (ix3 0 r ⟨d.val, h⟩) = ix3 0 r d := by
    funext a
    match a with
    | ⟨0, _⟩ => rfl
    | ⟨1, _⟩ => rfl
    | ⟨2, _⟩ => exact Fin.ext (Nat.mod_eq_of_lt d.isLt)
  unfold Cat.cat
  rw [if_pos (show ((ix3 0 r ⟨d.val, h⟩ : S1x1024x256.Idx) 2).val < 128 from d.isLt), e]

/-- The second half of a slot. -/
theorem cat_right (w0 w1 : Vec Ideal S1x1024x128 .bf16) (r : Fin 1024) (d : Fin 128) (h : 128 + d.val < 256) :
    Cat.cat w0 w1 (ix3 0 r ⟨128 + d.val, h⟩) = w1 (ix3 0 r d) := by
  have e : Cat.col (ix3 0 r ⟨128 + d.val, h⟩) = ix3 0 r d := by
    funext a
    match a with
    | ⟨0, _⟩ => rfl
    | ⟨1, _⟩ => rfl
    | ⟨2, _⟩ => exact Fin.ext (by show (128 + d.val) % 128 = d.val; omega)
  unfold Cat.cat
  rw [if_neg (show ¬ ((ix3 0 r ⟨128 + d.val, h⟩ : S1x1024x256.Idx) 2).val < 128 by show ¬ (128 + d.val < 128); omega), e]

variable (I : Dev nD → Inp Ideal) (c : Dev nD)

/-- The contexts and the row sums of a head over the whole mesh. -/
def ctxAll (h : Fin 8) (r : Fin 1024) (d : Fin 128) : EReal := ∑ c : Dev nD, ctx (I c) c h r d
def rsAll (h : Fin 8) (r : Fin 1024) : EReal := ∑ c : Dev nD, rs (I c) c h r

/-- A device's row sums, one column per head. -/
theorem ls_apply (r : Fin 1024) :
    ls I c (ix2 r 0) = rs (I c) c 0 r ∧ ls I c (ix2 r 1) = rs (I c) c 1 r ∧ ls I c (ix2 r 2) = rs (I c) c 2 r ∧
      ls I c (ix2 r 3) = rs (I c) c 3 r ∧ ls I c (ix2 r 4) = rs (I c) c 4 r ∧ ls I c (ix2 r 5) = rs (I c) c 5 r ∧
      ls I c (ix2 r 6) = rs (I c) c 6 r ∧ ls I c (ix2 r 7) = rs (I c) c 7 r := by
  obtain ⟨a0, a1, a2, a3, a4, a5, a6, a7⟩ := r_apply (I c) c r
  refine ⟨?_, ?_, ?_, ?_, ?_, ?_, ?_, ?_⟩ <;> pointwise [ls, k0_pay40, a0, a1, a2, a3, a4, a5, a6, a7]

/-- The total row sums. -/
theorem tot_apply (r : Fin 1024) (l : Fin 128) (h : Fin 8) (hl : ∀ c, ls I c (ix2 r l) = rs (I c) c h r) :
    tot I c (ix2 r l) = rsAll I h r := by
  rw [rsAll, ← dev_sum (fun c => rs (I c) c h r) c]
  pointwise [tot, k0_pay44, lt, k0_pay43, hl]

/-- Two slots, each summed with a partner's. -/
theorem sm_apply (j : S1x1024x256.Idx) (hj : ∃ r k, j = ix3 0 r k) :
    sm0 I c j = cs0 I c j + cs0 I (p1 c) j ∧ sm1 I c j = cs1 I c j + cs1 I (p2 c) j ∧
      sm2 I c j = cs2 I c j + cs2 I (p1 c) j ∧ sm3 I c j = cs3 I c j + cs3 I (p2 c) j := by
  obtain ⟨r, k, rfl⟩ := hj
  refine ⟨?_, ?_, ?_, ?_⟩ <;> pointwise [sm0, sm1, sm2, sm3, k0_pay30, k0_pay38, k0_pay39, k0_pay41, k0_pay42]

/-- The first half of each chunk, summed over the mesh. -/
theorem sm_left (r : Fin 1024) (d : Fin 128) (h : d.val < 256) :
    sm0 I c (ix3 0 r ⟨d.val, h⟩) + sm0 I (p2 c) (ix3 0 r ⟨d.val, h⟩) = ctxAll I 0 r d ∧
      sm1 I c (ix3 0 r ⟨d.val, h⟩) + sm1 I (p1 c) (ix3 0 r ⟨d.val, h⟩) = ctxAll I 2 r d ∧
      sm2 I c (ix3 0 r ⟨d.val, h⟩) + sm2 I (p2 c) (ix3 0 r ⟨d.val, h⟩) = ctxAll I 4 r d ∧
      sm3 I c (ix3 0 r ⟨d.val, h⟩) + sm3 I (p1 c) (ix3 0 r ⟨d.val, h⟩) = ctxAll I 6 r d := by
  have e := fun c => sm_apply I c (ix3 0 r ⟨d.val, h⟩) ⟨_, _, rfl⟩
  have a := fun c => h_apply (I c) c r d
  refine ⟨?_, ?_, ?_, ?_⟩
  · rw [(e c).1, (e (p2 c)).1, dev_sum (fun c => cs0 I c _)]
    exact Finset.sum_congr rfl fun x _ => (cat_left _ _ r d h).trans (a x).1
  · rw [(e c).2.1, (e (p1 c)).2.1, dev_sum' (fun c => cs1 I c _)]
    exact Finset.sum_congr rfl fun x _ => (cat_left _ _ r d h).trans (a x).2.2.1
  · rw [(e c).2.2.1, (e (p2 c)).2.2.1, dev_sum (fun c => cs2 I c _)]
    exact Finset.sum_congr rfl fun x _ => (cat_left _ _ r d h).trans (a x).2.2.2.2.1
  · rw [(e c).2.2.2, (e (p1 c)).2.2.2, dev_sum' (fun c => cs3 I c _)]
    exact Finset.sum_congr rfl fun x _ => (cat_left _ _ r d h).trans (a x).2.2.2.2.2.2.1

/-- The second half of each chunk, summed over the mesh. -/
theorem sm_right (r : Fin 1024) (d : Fin 128) (h : 128 + d.val < 256) :
    sm0 I c (ix3 0 r ⟨128 + d.val, h⟩) + sm0 I (p2 c) (ix3 0 r ⟨128 + d.val, h⟩) = ctxAll I 1 r d ∧
      sm1 I c (ix3 0 r ⟨128 + d.val, h⟩) + sm1 I (p1 c) (ix3 0 r ⟨128 + d.val, h⟩) = ctxAll I 3 r d ∧
      sm2 I c (ix3 0 r ⟨128 + d.val, h⟩) + sm2 I (p2 c) (ix3 0 r ⟨128 + d.val, h⟩) = ctxAll I 5 r d ∧
      sm3 I c (ix3 0 r ⟨128 + d.val, h⟩) + sm3 I (p1 c) (ix3 0 r ⟨128 + d.val, h⟩) = ctxAll I 7 r d := by
  have e := fun c => sm_apply I c (ix3 0 r ⟨128 + d.val, h⟩) ⟨_, _, rfl⟩
  have a := fun c => h_apply (I c) c r d
  refine ⟨?_, ?_, ?_, ?_⟩
  · rw [(e c).1, (e (p2 c)).1, dev_sum (fun c => cs0 I c _)]
    exact Finset.sum_congr rfl fun x _ => (cat_right _ _ r d h).trans (a x).2.1
  · rw [(e c).2.1, (e (p1 c)).2.1, dev_sum' (fun c => cs1 I c _)]
    exact Finset.sum_congr rfl fun x _ => (cat_right _ _ r d h).trans (a x).2.2.2.1
  · rw [(e c).2.2.1, (e (p2 c)).2.2.1, dev_sum (fun c => cs2 I c _)]
    exact Finset.sum_congr rfl fun x _ => (cat_right _ _ r d h).trans (a x).2.2.2.2.2.1
  · rw [(e c).2.2.2, (e (p1 c)).2.2.2, dev_sum' (fun c => cs3 I c _)]
    exact Finset.sum_congr rfl fun x _ => (cat_right _ _ r d h).trans (a x).2.2.2.2.2.2.2

/-- The result: the quotients' product with the output weights, head by head. -/
theorem out_apply (r o : Fin 1024) :
    out I c (ix3 0 r o) =
      ∑ h : Fin 8, ∑ d : Fin 128, Ideal.div (ctxAll I h r d) (rsAll I h r) * (I c).wo (ix2 (col h d) o) := by
  have t0 := tot_apply I c r 0 0 fun c => (ls_apply I c r).1
  have t1 := tot_apply I c r 1 1 fun c => (ls_apply I c r).2.1
  have t2 := tot_apply I c r 2 2 fun c => (ls_apply I c r).2.2.1
  have t3 := tot_apply I c r 3 3 fun c => (ls_apply I c r).2.2.2.1
  have t4 := tot_apply I c r 4 4 fun c => (ls_apply I c r).2.2.2.2.1
  have t5 := tot_apply I c r 5 5 fun c => (ls_apply I c r).2.2.2.2.2.1
  have t6 := tot_apply I c r 6 6 fun c => (ls_apply I c r).2.2.2.2.2.2.1
  have t7 := tot_apply I c r 7 7 fun c => (ls_apply I c r).2.2.2.2.2.2.2
  have l := fun d h => sm_left I c r d h
  have l0 := fun d h => (l d h).1
  have l1 := fun d h => (l d h).2.1
  have l2 := fun d h => (l d h).2.2.1
  have l3 := fun d h => (l d h).2.2.2
  have g := fun d h => sm_right I c r d h
  have g0 := fun d h => (g d h).1
  have g1 := fun d h => (g d h).2.1
  have g2 := fun d h => (g d h).2.2.1
  have g3 := fun d h => (g d h).2.2.2
  rw [Fin.sum_univ_eight]
  pointwise [out, k0_pay52, k0_pay50, k0_pay51, k0_pay49, acc1, k0_pay48, k0_pay47, acc0, k0_pay46, wo, k0_pay45,
    t0, t1, t2, t3, t4, t5, t6, t7, l0, l1, l2, l3, g0, g1, g2, g3, col]
  simp only [← add_assoc, ← Nat.add_assoc, Nat.reduceAdd]

end Cert.KernelIdeal.Value

end
-- ==== Proof.Value.RefRead.lean ====
/-
# The reference's value at an index

The reference's named parts read at an index: the mask is `att` of the block numbers, every row sees a key, and the
scores, their greatest, the exponentials, the weights and the result are sums and quotients of the arguments' elements.
-/
module

public import proofs.«01_k».proof.Proof.Value.RefTerm

@[expose] public section

set_option maxRecDepth 16384

noncomputable section

namespace Cert.ReferenceIdeal.Value

open Cert.ReferenceIdeal Cert.ReferenceIdeal.Gen Cert.Value
open Idealize.ShloMosaic

/-- The literal 128, and the literal of negative infinity. -/
theorem ofBits_128 : Ideal.ofBits .f32 0x43000000#32 = ((128 : ℝ) : EReal) := by
  simp [Ideal.ofBits, Ideal.ieee, -EReal.coe_mul]; norm_num
theorem ofBits_bot : Ideal.ofBits .f32 0xFF800000#32 = (⊥ : EReal) := by
  simp [Ideal.ofBits, Ideal.ieee]

/-- A query row's block number. -/
theorem rowBlock_apply (r : Fin 1024) : rowBlock (ix1 r) = BitVec.ofNat 32 (r.val / 64) := by
  rw [← fdivR_ofNat ⟨r.val, by omega⟩]
  pointwise [rowBlock, fdivR, sgn]

/-- A key's block number. -/
theorem keyBlock_apply (j : Fin 4096) : keyBlock (ix1 j) = BitVec.ofNat 32 (j.val / 64) := by
  rw [← fdivR_ofNat j]
  pointwise [keyBlock, fdivR, sgn]

/-- The machine's remainder. -/
theorem rem_apply (r : Fin 1024) (j : Fin 4096) :
    rem (ix2 r j) = IntOp.remsi .host (IntOp.addi (BitVec.ofNat 32 (r.val / 64)) (BitVec.ofNat 32 (j.val / 64))) 3#32 := by
  pointwise [rem, threeB, rowB, keyB, three, rowBlock_apply, keyBlock_apply]
  rfl

/-- The mask. -/
theorem mask_apply (r : Fin 1024) (j : Fin 4096) : mask (ix2 r j) = BitVec.ofBool (att (r.val / 64) (j.val / 64)) := by
  have h := attW_host ⟨r.val / 64, by omega⟩ ⟨j.val / 64, by omega⟩
  dsimp only at h
  rw [← h]
  pointwise [mask, threeB, three, rowB, keyB, rowBlock_apply, keyBlock_apply, rem_apply, attW, mod3]
  rw [ne_bit, show Scalar.select (IntOp.cmpi CmpIPredicate.eq 3#32 0#32) 1#32 3#32 = 3#32 from rfl]

/-- Every row sees a key. -/
theorem keep_apply (r : Fin 1024) : keep (ix1 r) = 1#1 := by
  pointwise [keep, mask_apply]
  exact fold_ori_of_mem _ _ (0 : Fin 4096) (Finset.mem_univ _) (by rw [show ((0 : Fin 4096).val / 64) = 0 from rfl, att_zero]; rfl)

section Floats
variable (x : Vec Ideal S1x1024x1024 .bf16) (wq : Vec Ideal S1024x1024 .bf16) (k v : Vec Ideal S1x4096x8x128 .bf16) (wo : Vec Ideal S1024x1024 .bf16)

/-- Column `d` of head `h`. -/
def col (h : Fin 8) (d : Fin 128) : Fin 1024 := ⟨h.val * 128 + d.val, by omega⟩

/-- The masked scores. -/
theorem scores_apply (h : Fin 8) (r : Fin 1024) (j : Fin 4096) :
    scores x wq k (ix4 0 h r j) = if att (r.val / 64) (j.val / 64) then
      Ideal.div (∑ d : Fin 128, (∑ e : Fin 1024, x (ix3 0 r e) * wq (ix2 e (col h d))) * k (ix4 0 j h d)) (Ideal.sqrt (128 : ℝ)) else ⊥ := by
  rw [← select_ofBool]
  pointwise [scores, mask_apply, col, ofBits_128, ofBits_bot]

/-- The greatest score of a row. -/
theorem top_apply (h : Fin 8) (r : Fin 1024) :
    top x wq k (ix3 0 h r) = Finset.fold max ⊥ (fun j => scores x wq k (ix4 0 h r j)) Finset.univ := by
  pointwise [top, ofBits_bot]

/-- The exponentials. -/
theorem expo_apply (h : Fin 8) (r : Fin 1024) (j : Fin 4096) :
    expo x wq k (ix4 0 h r j) = Ideal.exp (scores x wq k (ix4 0 h r j) - top x wq k (ix3 0 h r)) := by
  pointwise [expo]

/-- The divisors. -/
theorem total_apply (h : Fin 8) (r : Fin 1024) :
    total x wq k (ix4 0 h r 0) = ∑ j : Fin 4096, expo x wq k (ix4 0 h r j) := by
  pointwise [total, keep_apply]

/-- The shape of the weights' term: a quotient where the row is kept. -/
theorem weights_shape (K : IVec S1024 1) (E : FVec Ideal S1x8x1024x4096 .f32) (T : FVec Ideal S1x8x1024x1 .f32) (h : Fin 8) (r : Fin 1024) (j : Fin 4096) :
    select (broadcastInDim S1x8x1024x4096 ![0, 1, 2, 3] bcast_S1x1x1024x1_S1x8x1024x4096_0_1_2_3 (broadcastInDim S1x1x1024x1 ![2] bcast_S1024_S1x1x1024x1_2 K))
      (Host.divf E (broadcastInDim S1x8x1024x4096 ![0, 1, 2, 3] bcast_S1x8x1024x1_S1x8x1024x4096_0_1_2_3 T))
      (broadcastInDim S1x8x1024x4096 ![] bcast_S_S1x8x1024x4096 (constant S_ .f32 0x00000000#32)) (ix4 0 h r j) =
    Scalar.select (K (ix1 r)) (Ideal.div (E (ix4 0 h r j)) (T (ix4 0 h r 0))) 0 := by
  pointwise

/-- The normalised weights. -/
theorem weights_apply (h : Fin 8) (r : Fin 1024) (j : Fin 4096) :
    weights x wq k (ix4 0 h r j) = Ideal.div (expo x wq k (ix4 0 h r j)) (∑ j : Fin 4096, expo x wq k (ix4 0 h r j)) := by
  unfold weights
  rw [weights_shape, keep_apply, total_apply]
  rfl

/-- The result, column by column. -/
theorem result_apply (r o : Fin 1024) :
    result x wq k v wo (ix3 0 r o) =
      ∑ l : Fin 1024, (∑ j : Fin 4096, v (ix4 0 j ⟨l.val / 128, by omega⟩ ⟨l.val % 128, by omega⟩) *
        weights x wq k (ix4 0 ⟨l.val / 128, by omega⟩ r j)) * wo (ix2 l o) := by
  pointwise [result]

end Floats

end Cert.ReferenceIdeal.Value

end
-- ==== Proof.Value.Softmax.lean ====
/-
# The softmax's two forms agree

One program divides the weighted sum of the values by the sum of the weights `exp s`; the other first subtracts the
row's greatest score, normalises each weight and then sums. For real scores they agree, whatever the values are,
infinities included: a positive real factor may be carried through any sum. A key that the mask hides has weight zero in
both. With them, the score of a query and a key in its two forms: the scale inside the projection, and the division by
the square root of 128 after the product.
-/
module

public import Mathlib.Analysis.SpecialFunctions.Exp
public import Mathlib.Data.EReal.Operations
public import Mathlib.Data.EReal.Inv
public import Idealize.ShloMosaic.PureOps.Ideal

@[expose] public section

namespace Cert.Value

open Idealize.ShloMosaic

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor is carried into a sum. -/
theorem sum_mul_coe {ι : Type} (s : Finset ι) (f : ι → EReal) {y : ℝ} (hy : 0 ≤ y) :
    (∑ i ∈ s, f i) * (y : EReal) = ∑ i ∈ s, f i * (y : EReal) := by
  classical
  induction s using Finset.induction_on with
  | empty => simp
  | insert a s ha ih =>
    rw [Finset.sum_insert ha, Finset.sum_insert ha,
      EReal.right_distrib_of_nonneg_of_ne_top (by exact_mod_cast hy) (EReal.coe_ne_top y), ih]

section Softmax
variable {ι : Type} [Fintype ι] (s : ι → ℝ) (a : ι → Bool) (v : ι → EReal)

/-- The weight of a key before any normalisation: zero where it is hidden. -/
noncomputable def raw (j : ι) : ℝ := if a j then Real.exp (s j) else 0

/-- A masked score: negative infinity where the key is hidden. -/
noncomputable def masked (j : ι) : EReal := if a j then (s j : EReal) else ⊥

/-- The exponential of a score with the mask added is the raw weight. -/
theorem exp_add_bias (j : ι) : Ideal.exp ((s j : EReal) + (if a j then 0 else ⊥)) = (raw s a j : EReal) := by
  unfold raw
  by_cases h : a j
  · simp [h]
  · simp [h]

/-- The greatest masked score is a real number when some key is seen. -/
theorem top_real (h : ∃ j, a j = true) : ∃ m : ℝ, Finset.fold max (⊥ : EReal) (masked s a) Finset.univ = (m : EReal) := by
  classical
  obtain ⟨j0, h0⟩ := h
  have e : Finset.fold max (⊥ : EReal) (masked s a) Finset.univ = Finset.sup Finset.univ (masked s a) := rfl
  obtain ⟨j, -, hj⟩ := Finset.exists_mem_eq_sup Finset.univ ⟨j0, Finset.mem_univ _⟩ (masked s a)
  have hle : masked s a j0 ≤ masked s a j := hj ▸ Finset.le_sup (Finset.mem_univ j0)
  rw [e, hj]
  by_cases h : a j
  · exact ⟨s j, by simp [masked, h]⟩
  · simp [masked, h, h0] at hle

/-- The exponential of a masked score less a real is the raw weight times a positive factor. -/
theorem exp_sub_real (m : ℝ) (j : ι) : Ideal.exp (masked s a j - (m : EReal)) = ((raw s a j * Real.exp (-m) : ℝ) : EReal) := by
  unfold raw masked
  by_cases h : a j
  · rw [if_pos h, if_pos h, ← EReal.coe_sub, Ideal.exp_coe, sub_eq_add_neg, Real.exp_add]
  · simp [h]

/-- The raw weights are nonnegative, and their sum is positive when some key is seen. -/
theorem raw_nonneg (j : ι) : 0 ≤ raw s a j := by
  unfold raw; split
  · exact (Real.exp_pos _).le
  · exact le_rfl
theorem sum_raw_pos (h : ∃ j, a j = true) : 0 < ∑ j, raw s a j := by
  obtain ⟨j0, h0⟩ := h
  exact Finset.sum_pos' (fun j _ => raw_nonneg s a j) ⟨j0, Finset.mem_univ _, by simp [raw, h0, Real.exp_pos]⟩

/-- The two forms of the softmax's weighted sum. -/
theorem softmax_eq (h : ∃ j, a j = true) (S : ι → EReal) (hS : ∀ j, S j = masked s a j) :
    (∑ j, v j * Ideal.div (Ideal.exp (S j - Finset.fold max ⊥ S Finset.univ)) (∑ j, Ideal.exp (S j - Finset.fold max ⊥ S Finset.univ))) =
      Ideal.div (∑ j, (raw s a j : EReal) * v j) (∑ j, (raw s a j : EReal)) := by
  obtain rfl : S = masked s a := funext hS
  obtain ⟨m, hm⟩ := top_real s a h
  have hP := sum_raw_pos s a h
  have ht := Real.exp_pos (-m)
  simp only [hm, exp_sub_real, ← coe_sum, ← Finset.sum_mul]
  rw [Ideal.div_coe hP.ne', sum_mul_coe _ _ (by positivity)]
  refine Finset.sum_congr rfl fun j _ => ?_
  rw [Ideal.div_coe (mul_pos hP ht).ne', ← EReal.coe_mul, mul_comm (raw s a j : EReal), mul_assoc (v j), ← EReal.coe_mul]
  congr 2
  field_simp

end Softmax

/-- A query's score on a key, in the reals, with the scale `σ` on the projection's weights. -/
theorem score_scaled {κ ι : Type} [Fintype κ] [Fintype ι] (σ : ℝ) (x : ι → EReal) (w : ι → κ → EReal) (k : κ → EReal)
    (X : ι → ℝ) (W : ι → κ → ℝ) (K : κ → ℝ) (hx : ∀ e, x e = X e) (hw : ∀ e d, w e d = W e d) (hk : ∀ d, k d = K d) :
    (∑ d, (∑ e, x e * (w e d * (σ : EReal))) * k d) = (((∑ d, (∑ e, X e * W e d) * K d) * σ : ℝ) : EReal) := by
  simp only [hx, hw, hk, ← EReal.coe_mul, ← coe_sum]
  congr 1
  rw [Finset.sum_mul]
  refine Finset.sum_congr rfl fun d _ => ?_
  simp only [← mul_assoc, ← Finset.sum_mul]
  ring

/-- The same score with the division at the end. -/
theorem score_divided {κ ι : Type} [Fintype κ] [Fintype ι] (x : ι → EReal) (w : ι → κ → EReal) (k : κ → EReal)
    (X : ι → ℝ) (W : ι → κ → ℝ) (K : κ → ℝ) (hx : ∀ e, x e = X e) (hw : ∀ e d, w e d = W e d) (hk : ∀ d, k d = K d) :
    Ideal.div (∑ d, (∑ e, x e * w e d) * k d) (Ideal.sqrt (128 : ℝ)) = (((∑ d, (∑ e, X e * W e d) * K d) * (Real.sqrt 128)⁻¹ : ℝ) : EReal) := by
  have h : Real.sqrt 128 ≠ 0 := (Real.sqrt_pos.2 (by norm_num)).ne'
  simp only [hx, hw, hk, ← EReal.coe_mul, ← coe_sum]
  rw [Ideal.sqrt_coe, if_neg (by norm_num), Ideal.div_coe h, one_div, ← EReal.coe_mul]

/-- An extended real that is neither infinity is a real. -/
theorem exists_real {x : EReal} (h1 : x ≠ ⊤) (h2 : x ≠ ⊥) : ∃ r : ℝ, x = r := ⟨x.toReal, (EReal.coe_toReal h1 h2).symm⟩

end Cert.Value
-- ==== Proof.Value.Agree.lean ====
/-
# The two values agree

From the same activations and weights, with device `c`'s keys and values being rows `1024·c` and on of the reference's,
and with real activations, query weights and keys, the kernel's result is the reference's at every index.
-/
module

public import proofs.«01_k».proof.Proof.Value.Mesh
public import proofs.«01_k».proof.Proof.Value.RefRead
public import proofs.«01_k».proof.Proof.Value.Softmax

@[expose] public section

set_option maxRecDepth 16384

noncomputable section

namespace Cert.Value

open Idealize.ShloMosaic
open Cert.KernelIdeal (nD)

/-- Row `j` of device `c`'s keys, counted over the whole mesh. -/
def row (c : Dev nD) (j : Fin 1024) : Fin 4096 := ⟨1024 * c.val + j.val, by have : c.val < 4 := c.isLt; omega⟩

/-- A sum over the whole mesh's keys is the sum over the devices of their own. -/
theorem sum_rows (f : Fin 4096 → EReal) : ∑ c : Dev nD, ∑ j : Fin 1024, f (row c j) = ∑ j, f j := by
  rw [← Fintype.sum_prod_type' (fun (c : Dev nD) (j : Fin 1024) => f (row c j))]
  refine Fintype.sum_equiv (finProdFinEquiv (m := 4) (n := 1024)) _ _ fun p => congrArg f (Fin.ext ?_)
  simp [row, finProdFinEquiv]; omega

/-- A sum over the columns is the sum over the heads of their own. -/
theorem sum_cols (f : Fin 1024 → EReal) : ∑ l, f l = ∑ h : Fin 8, ∑ d : Fin 128, f (Cert.KernelIdeal.Value.col h d) := by
  rw [← Fintype.sum_prod_type' (fun (h : Fin 8) (d : Fin 128) => f (Cert.KernelIdeal.Value.col h d))]
  refine (Fintype.sum_equiv (finProdFinEquiv (m := 8) (n := 128)) _ _ fun p => congrArg f (Fin.ext ?_)).symm
  simp [Cert.KernelIdeal.Value.col, finProdFinEquiv]; omega

/-- The two spellings of a head's column. -/
theorem col_eq (h : Fin 8) (d : Fin 128) : Cert.ReferenceIdeal.Value.col h d = Cert.KernelIdeal.Value.col h d :=
  Fin.ext (by simp [Cert.KernelIdeal.Value.col, Cert.ReferenceIdeal.Value.col]; omega)

section
variable (I : Dev nD → Cert.KernelIdeal.Run.Inp Ideal)
  (x : Vec Ideal Cert.ReferenceIdeal.S1x1024x1024 .bf16) (wq : Vec Ideal Cert.ReferenceIdeal.S1024x1024 .bf16)
  (k v : Vec Ideal Cert.ReferenceIdeal.S1x4096x8x128 .bf16) (wo : Vec Ideal Cert.ReferenceIdeal.S1024x1024 .bf16)

/-- What ties the devices' blocks to the reference's arguments. -/
structure Blocks : Prop where
  hx : ∀ c r e, (I c).x (ix3 0 r e) = x (ix3 0 r e)
  hwq : ∀ c e l, (I c).wq (ix2 e l) = wq (ix2 e l)
  hk : ∀ c j h d, (I c).k (ix2 j (Cert.KernelIdeal.Value.col h d)) = k (ix4 0 (row c j) h d)
  hv : ∀ c j h d, (I c).v (ix2 j (Cert.KernelIdeal.Value.col h d)) = v (ix4 0 (row c j) h d)
  hwo : ∀ c l o, (I c).wo (ix2 l o) = wo (ix2 l o)

/-- The activations, the query weights and the keys are the given reals. -/
structure Reals (X : Fin 1024 → Fin 1024 → ℝ) (W : Fin 1024 → Fin 1024 → ℝ) (K : Fin 4096 → Fin 8 → Fin 128 → ℝ) : Prop where
  x_eq : ∀ r e, x (ix3 0 r e) = (X r e : EReal)
  wq_eq : ∀ e l, wq (ix2 e l) = (W e l : EReal)
  k_eq : ∀ j h d, k (ix4 0 j h d) = (K j h d : EReal)

variable {I x wq k v wo}
variable (X : Fin 1024 → Fin 1024 → ℝ) (W : Fin 1024 → Fin 1024 → ℝ) (K : Fin 4096 → Fin 8 → Fin 128 → ℝ)

/-- The score of a query and a key, in the reals. -/
def score (h : Fin 8) (r : Fin 1024) (j : Fin 4096) : ℝ :=
  (∑ d : Fin 128, (∑ e : Fin 1024, X r e * W e (Cert.KernelIdeal.Value.col h d)) * K j h d) * (Real.sqrt 128)⁻¹

/-- Whether a query row sees a key. -/
def sees (r : Fin 1024) (j : Fin 4096) : Bool := att (r.val / 64) (j.val / 64)

/-- Every row sees the first key. -/
theorem sees_some (r : Fin 1024) : ∃ j, sees r j = true := ⟨0, att_zero _⟩

variable (hb : Blocks I x wq k v wo) (hr : Reals x wq k X W K)

include hb hr in
/-- The kernel's weights are the raw ones. -/
theorem wt_eq (c : Dev nD) (h : Fin 8) (r j : Fin 1024) :
    Cert.KernelIdeal.Value.wt (I c) c h r j = (raw (score X W K h r) (sees r) (row c j) : EReal) := by
  rw [← exp_add_bias, Cert.KernelIdeal.Value.wt, Cert.KernelIdeal.Value.bias_apply]
  simp only [Cert.KernelIdeal.Value.q_apply]
  rw [score_scaled ((Real.sqrt 128)⁻¹) (fun e => (I c).x (ix3 0 r e)) (fun e d => (I c).wq (ix2 e (Cert.KernelIdeal.Value.col h d)))
    (fun d => (I c).k (ix2 j (Cert.KernelIdeal.Value.col h d))) (X r) (fun e d => W e (Cert.KernelIdeal.Value.col h d)) (K (row c j) h)
    (fun e => (hb.hx c r e).trans (hr.x_eq r e)) (fun e d => (hb.hwq c e _).trans (hr.wq_eq e _))
    (fun d => (hb.hk c j h d).trans (hr.k_eq _ h d))]
  rfl

include hr in
/-- The reference's masked scores. -/
theorem scores_eq (h : Fin 8) (r : Fin 1024) (j : Fin 4096) :
    Cert.ReferenceIdeal.Value.scores x wq k (ix4 0 h r j) = masked (score X W K h r) (sees r) j := by
  rw [Cert.ReferenceIdeal.Value.scores_apply]
  simp only [col_eq]
  rw [score_divided (fun e => x (ix3 0 r e)) (fun e d => wq (ix2 e (Cert.KernelIdeal.Value.col h d)))
    (fun d => k (ix4 0 j h d)) (X r) (fun e d => W e (Cert.KernelIdeal.Value.col h d)) (K j h)
    (fun e => hr.x_eq r e) (fun e d => hr.wq_eq e _) (fun d => hr.k_eq _ h d)]
  rfl

include hb hr in
/-- A head's context, normalised, in its two forms. -/
theorem context_eq (h : Fin 8) (r : Fin 1024) (d : Fin 128) :
    Ideal.div (Cert.KernelIdeal.Value.ctxAll I h r d) (Cert.KernelIdeal.Value.rsAll I h r) =
      ∑ j : Fin 4096, v (ix4 0 j h d) * Cert.ReferenceIdeal.Value.weights x wq k (ix4 0 h r j) := by
  simp only [Cert.ReferenceIdeal.Value.weights_apply, Cert.ReferenceIdeal.Value.expo_apply, Cert.ReferenceIdeal.Value.top_apply]
  rw [softmax_eq (score X W K h r) (sees r) (fun j => v (ix4 0 j h d)) (sees_some r)
    (fun j => Cert.ReferenceIdeal.Value.scores x wq k (ix4 0 h r j)) (scores_eq X W K hr h r)]
  rw [← sum_rows, ← sum_rows]
  simp only [Cert.KernelIdeal.Value.ctxAll, Cert.KernelIdeal.Value.rsAll, Cert.KernelIdeal.Value.ctx, Cert.KernelIdeal.Value.rs,
    wt_eq X W K hb hr, hb.hv]

include hb hr in
/-- The results agree. -/
theorem out_eq (c : Dev nD) (r o : Fin 1024) :
    Cert.KernelIdeal.Run.out I c (ix3 0 r o) = Cert.ReferenceIdeal.Value.result x wq k v wo (ix3 0 r o) := by
  rw [Cert.KernelIdeal.Value.out_apply, Cert.ReferenceIdeal.Value.result_apply, sum_cols]
  refine Finset.sum_congr rfl fun h _ => Finset.sum_congr rfl fun d _ => ?_
  have e1 : ∀ p, (⟨(Cert.KernelIdeal.Value.col h d).val / 128, p⟩ : Fin 8) = h := fun p =>
    Fin.ext (by simp [Cert.KernelIdeal.Value.col]; omega)
  have e2 : ∀ p, (⟨(Cert.KernelIdeal.Value.col h d).val % 128, p⟩ : Fin 128) = d := fun p =>
    Fin.ext (by simp [Cert.KernelIdeal.Value.col])
  rw [context_eq X W K hb hr, hb.hwo]
  simp only [e1, e2]

end

end Cert.Value

end
-- ==== Proof.Value.Inputs.lean ====
/-
# What a device's kernel is handed

The five operands as they stand in memory: the activations and the two weight matrices as launched, the keys and the
values with their heads laid side by side in columns.
-/
module

public import proofs.«01_k».proof.Proof.KernelIdeal.Launch
public import proofs.«01_k».proof.Proof.Value.Agree
public import Idealize.ShloMosaic.Lib.StableHlo.RunRead
public import Idealize.ShloMosaic.Lib.LayoutAt

@[expose] public section

set_option maxRecDepth 16384

noncomputable section

namespace Cert.KernelIdeal.Value

open Cert.KernelIdeal Cert.KernelIdeal.Gen Cert.KernelIdeal.Run Cert.Value
open Idealize.ShloMosaic Idealize.ShloMosaic.TcCoe

variable (m : (ℓ : Loc nD τ sig) → Buf (Elt Ideal) ℓ) (c : Dev nD)

/-- The activations are as launched. -/
theorem inp_x : (inp m c).x = m ((c : Thread nD τ).loc main_arg0) := by
  show (win0_0.blk t0_0).view.read (Elt Ideal) (V m c main_arg0) = _
  rw [V_main_arg0]
  exact Memref.read_access_unit_zero (Elt Ideal) main_arg0
    (show (fun a => (win0_0.index t0_0) a * main_arg0.ty.shape.size a) = fun _ => 0 from
      funext fun a => by fin_cases a <;> decide) (fun a => by fin_cases a <;> decide) _

/-- The query weights are as launched. -/
theorem inp_wq : (inp m c).wq = m ((c : Thread nD τ).loc main_arg1) := by
  show (win0_1.blk t0_0).view.read (Elt Ideal) (V m c main_arg1) = _
  rw [V_main_arg1]
  exact Memref.read_access_unit_zero (Elt Ideal) main_arg1
    (show (fun a => (win0_1.index t0_0) a * main_arg1.ty.shape.size a) = fun _ => 0 from
      funext fun a => by fin_cases a <;> decide) (fun a => by fin_cases a <;> decide) _

/-- The output weights are as launched. -/
theorem inp_wo : (inp m c).wo = m ((c : Thread nD τ).loc main_arg4) := by
  show (win0_4.blk t0_0).view.read (Elt Ideal) (V m c main_arg4) = _
  rw [V_main_arg4]
  exact Memref.read_access_unit_zero (Elt Ideal) main_arg4
    (show (fun a => (win0_4.index t0_0) a * main_arg4.ty.shape.size a) = fun _ => 0 from
      funext fun a => by fin_cases a <;> decide) (fun a => by fin_cases a <;> decide) _

/-- A block of keys or values with its heads laid side by side. -/
def flat (a : Vec Ideal S1x1024x8x128 .bf16) : Vec Ideal S1024x1024 .bf16 := shapeCast S1024x1024 a shapeCasts_S1x1024x8x128_S1024x1024

/-- Column `d` of head `h` of it is that head's element `d`. -/
theorem flat_apply (a : Vec Ideal S1x1024x8x128 .bf16) (j : Fin 1024) (h : Fin 8) (d : Fin 128) :
    flat a (ix2 j (col h d)) = a (ix4 0 j h d) := by
  pointwise [flat, col]

/-- The keys are those launched, so laid. -/
theorem inp_k : (inp m c).k = flat (m ((c : Thread nD τ).loc main_arg2)) := by
  refine (Memref.read_access_unit_zero (Elt Ideal) main_v1
    (show (fun a => (win0_2.index t0_0) a * main_v1.ty.shape.size a) = fun _ => 0 from
      funext fun a => by fin_cases a <;> decide) (fun a => by fin_cases a <;> decide) (V m c main_v1)).trans ?_
  show StableHlo.after hostOps0 (fun b => m (c, b)) (Proc.devRef .tc main_v1) = _
  after_reads_simp
  rfl

/-- The values are those launched, so laid. -/
theorem inp_v : (inp m c).v = flat (m ((c : Thread nD τ).loc main_arg3)) := by
  refine (Memref.read_access_unit_zero (Elt Ideal) main_v2
    (show (fun a => (win0_3.index t0_0) a * main_v2.ty.shape.size a) = fun _ => 0 from
      funext fun a => by fin_cases a <;> decide) (fun a => by fin_cases a <;> decide) (V m c main_v2)).trans ?_
  show StableHlo.after hostOps0 (fun b => m (c, b)) (Proc.devRef .tc main_v2) = _
  after_reads_simp
  rfl

end Cert.KernelIdeal.Value

namespace Cert.Value

open Idealize.ShloMosaic Idealize.ShloMosaic.TcCoe
open Cert.KernelIdeal (nD τ sig)
open Cert.KernelIdeal.Run (inp)

/-- Where element `(0, j, h, d)` of device `c`'s block of the keys or values lies in the whole. -/
theorem block_row {α : Type} (v : (⟨4, ![1, 4096, 8, 128]⟩ : Shape).Idx → α) (c : Dev nD) (j : Fin 1024) (h : Fin 8) (d : Fin 128) :
    Layout.block ⟨4, ![1, 1024, 8, 128]⟩ ⟨4, ![1, 4096, 8, 128]⟩ 1 4 c v (by decide) (ix4 0 j h d) = v (ix4 0 (row c j) h d) := by
  rw [Layout.block_apply]
  refine congrArg v (funext fun b => Fin.ext ?_)
  rw [Layout.Tiles.idx_val]
  match b with
  | ⟨0, _⟩ => rfl
  | ⟨1, _⟩ => show c.val * 1024 + j.val = 1024 * c.val + j.val; omega
  | ⟨2, _⟩ => rfl
  | ⟨3, _⟩ => rfl

/-- What the kernel is handed is the reference's arguments, device by device. -/
theorem blocks (m : (ℓ : Loc nD τ sig) → Buf (Elt Ideal) ℓ) (x : Vec Ideal Cert.ReferenceIdeal.S1x1024x1024 .bf16)
    (wq : Vec Ideal Cert.ReferenceIdeal.S1024x1024 .bf16) (k v : Vec Ideal Cert.ReferenceIdeal.S1x4096x8x128 .bf16)
    (wo : Vec Ideal Cert.ReferenceIdeal.S1024x1024 .bf16)
    (hx : ∀ c : Dev nD, m ((c : Thread nD τ).loc Cert.KernelIdeal.main_arg0) = x)
    (hwq : ∀ c : Dev nD, m ((c : Thread nD τ).loc Cert.KernelIdeal.main_arg1) = wq)
    (hk : ∀ c : Dev nD, m ((c : Thread nD τ).loc Cert.KernelIdeal.main_arg2) = Layout.block ⟨4, ![1, 1024, 8, 128]⟩ ⟨4, ![1, 4096, 8, 128]⟩ 1 4 c k)
    (hv : ∀ c : Dev nD, m ((c : Thread nD τ).loc Cert.KernelIdeal.main_arg3) = Layout.block ⟨4, ![1, 1024, 8, 128]⟩ ⟨4, ![1, 4096, 8, 128]⟩ 1 4 c v)
    (hwo : ∀ c : Dev nD, m ((c : Thread nD τ).loc Cert.KernelIdeal.main_arg4) = wo) :
    Blocks (inp m) x wq k v wo where
  hx c r e := congrFun ((Cert.KernelIdeal.Value.inp_x m c).trans (hx c)) _
  hwq c e l := congrFun ((Cert.KernelIdeal.Value.inp_wq m c).trans (hwq c)) _
  hk c j h d := by
    rw [Cert.KernelIdeal.Value.inp_k, Cert.KernelIdeal.Value.flat_apply, hk c]
    exact block_row k c j h d
  hv c j h d := by
    rw [Cert.KernelIdeal.Value.inp_v, Cert.KernelIdeal.Value.flat_apply, hv c]
    exact block_row v c j h d
  hwo c l o := congrFun ((Cert.KernelIdeal.Value.inp_wo m c).trans (hwo c)) _

end Cert.Value

end
-- ==== Proof.Value.Finite.lean ====
/-
# Finite arguments are real

The precondition, read of one device's blocks: its activations, query weights and keys are real numbers.
-/
module

public import proofs.«01_k».proof.Proof.Gen.Pre_finite_KernelIdeal
public import proofs.«01_k».proof.Proof.Value.Softmax
public import Idealize.ShloMosaic.Lib.ReduceAll
public import Idealize.ShloMosaic.Lib.Pointwise

@[expose] public section

set_option maxRecDepth 16384

noncomputable section

namespace Cert.Value

open Idealize.ShloMosaic
open Cert.Pre_finite_KernelIdeal Cert.Pre_finite_KernelIdeal.Gen

/-- The comparison that the precondition makes of every element, of an array of any shape. -/
def below {s : Shape} (h : S_.BroadcastsInDim s (![] : Fin 0 → Fin s.rank)) (a : FVec Ideal s .bf16) : IVec s 1 :=
  cmpf .olt (Host.absf (extf .f32 a (by decide))) (broadcastInDim s ![] h (constant (F := Ideal) S_ .f32 0x7F800000#32))

/-- An element of which it holds is a real number. -/
theorem real_of_below {s : Shape} (h : S_.BroadcastsInDim s (![] : Fin 0 → Fin s.rank)) (a : FVec Ideal s .bf16) (i : s.Idx)
    (e : below h a i = 1#1) : ∃ r : ℝ, a i = (r : EReal) := by
  have e' : BitVec.ofBool (decide (max (a i) (-(a i)) < Ideal.ofBits .f32 0x7F800000#32)) = 1#1 := e
  have ht : Ideal.ofBits .f32 0x7F800000#32 = (⊤ : EReal) := by simp [Ideal.ofBits, Ideal.ieee]
  have hlt : max (a i) (-(a i)) < (⊤ : EReal) := by
    rw [ht] at e'
    by_contra hn
    rw [decide_eq_false hn] at e'
    exact absurd e' (by decide)
  refine exists_real (fun h1 => ?_) (fun h2 => ?_)
  · exact absurd (lt_of_le_of_lt (le_max_left _ _) hlt) (by rw [h1]; exact lt_irrefl _)
  · exact absurd (lt_of_le_of_lt (le_max_right _ _) hlt) (by rw [h2, EReal.neg_bot]; exact lt_irrefl _)

/-- The precondition says that the activations, the query weights and the keys are real. -/
theorem real_of_fn (x : FVec Ideal S1x1024x1024 .bf16) (wq : FVec Ideal S1024x1024 .bf16) (k v : FVec Ideal S1x1024x8x128 .bf16)
    (wo : FVec Ideal S1024x1024 .bf16) (e : fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  have e0 := congrFun e (fun a => a.elim0)
  obtain ⟨e1, e2⟩ := IntOp.andi_eq_one.1 e0
  obtain ⟨e3, e4⟩ := IntOp.andi_eq_one.1 e1
  haveI : Subsingleton S_.Idx := ⟨fun p q => funext fun a => a.elim0⟩
  exact ⟨fun i => real_of_below _ x i (Host.reduce_andi_all _ _ _ _ _ e3 i), fun i => real_of_below _ wq i (Host.reduce_andi_all _ _ _ _ _ e4 i),
    fun i => real_of_below _ k i (Host.reduce_andi_all _ _ _ _ _ e2 i)⟩

end Cert.Value

end
-- ==== Proof.Algebraic.lean ====
/-
# The kernel computes the reference

From finite activations, query weights and keys, every device of the idealized kernel ends with the idealized
reference's result.
-/
module

public import proofs.«01_k».proof.Defs
public import proofs.«01_k».proof.Proof.KernelIdeal.Main
public import proofs.«01_k».proof.Proof.Gen.ReferenceIdeal.Run
public import proofs.«01_k».proof.Proof.Value.RefTerm
public import proofs.«01_k».proof.Proof.Value.Inputs
public import proofs.«01_k».proof.Proof.Value.Finite

@[expose] public section

set_option maxRecDepth 16384

noncomputable section

namespace Cert.Proof

open Idealize.ShloMosaic Idealize.ShloMosaic.TcCoe Idealize.SL.Sem
open Cert.Value

/-- The three finite arguments, over the whole mesh, as real numbers. -/
theorem reals (m : (ℓ : Loc Cert.KernelIdeal.nD Cert.KernelIdeal.τ Cert.KernelIdeal.sig) → Buf (Elt Ideal) ℓ)
    (hpre : Cert.Pre_KernelIdeal_finite_KernelIdeal m)
    (x : Vec Ideal Cert.ReferenceIdeal.S1x1024x1024 .bf16)
    (wq : Vec Ideal Cert.ReferenceIdeal.S1024x1024 .bf16) (k : Vec Ideal Cert.ReferenceIdeal.S1x4096x8x128 .bf16)
    (hx : ∀ c : Dev Cert.KernelIdeal.nD, m ((c : Thread Cert.KernelIdeal.nD Cert.KernelIdeal.τ).loc Cert.KernelIdeal.main_arg0) = x)
    (hwq : ∀ c : Dev Cert.KernelIdeal.nD, m ((c : Thread Cert.KernelIdeal.nD Cert.KernelIdeal.τ).loc Cert.KernelIdeal.main_arg1) = wq)
    (hk : ∀ c : Dev Cert.KernelIdeal.nD, m ((c : Thread Cert.KernelIdeal.nD Cert.KernelIdeal.τ).loc Cert.KernelIdeal.main_arg2)
      = Layout.block ⟨4, ![1, 1024, 8, 128]⟩ ⟨4, ![1, 4096, 8, 128]⟩ 1 4 c k) :
    ∃ X W K, Reals x wq k X W K := by
  have h0 := fun c => real_of_fn _ _ _ _ _ (hpre c)
  have hxr : ∀ i, ∃ r : ℝ, x i = (r : EReal) := fun i => by rw [← hx 0]; exact (h0 0).1 i
  have hwr : ∀ i, ∃ r : ℝ, wq i = (r : EReal) := fun i => by rw [← hwq 0]; exact (h0 0).2.1 i
  have hkr : ∀ (j : Fin 4096) (h : Fin 8) (d : Fin 128), ∃ r : ℝ, k (ix4 0 j h d) = (r : EReal) := fun j h d => by
    have hr : row ⟨j.val / 1024, by show j.val / 1024 < 4; omega⟩ ⟨j.val % 1024, by omega⟩ = j := Fin.ext (by simp only [row]; omega)
    rw [← hr, ← block_row k _ _ h d, ← hk]
    exact (h0 _).2.2 _
  choose X hX using hxr
  choose W hW using hwr
  choose K hK using hkr
  exact ⟨fun r e => X (ix3 0 r e), fun e l => W (ix2 e l), K, fun r e => hX _, fun e l => hW _, hK⟩

/-- The idealized kernel's result on every device is the idealized reference's. -/
theorem algebraic : Cert.algebraic_KernelIdeal_ReferenceIdeal_pre_finite_KernelIdeal := by
  intro m g m' g' hpre hagree
  obtain ⟨X, W, K, hr⟩ := reals m hpre _ _ _ (fun c => (hagree c).1) (fun c => (hagree c).2.1) (fun c => (hagree c).2.2.1)
  have hb := blocks m _ _ _ _ _ (fun c => (hagree c).1) (fun c => (hagree c).2.1) (fun c => (hagree c).2.2.1)
    (fun c => (hagree c).2.2.2.1) (fun c => (hagree c).2.2.2.2)
  have ho : ∀ c : Dev Cert.KernelIdeal.nD, Cert.KernelIdeal.Run.out (Cert.KernelIdeal.Run.inp m) c
      = Cert.ReferenceIdeal.Value.res_main_v50 m' 0 := fun c => by
    rw [Cert.ReferenceIdeal.Value.res_eq]
    funext j
    rw [show j = ix3 0 (j 1) (j 2) from funext fun a => by
      match a with
      | ⟨0, _⟩ => exact Subsingleton.elim (α := Fin 1) _ _
      | ⟨1, _⟩ => rfl
      | ⟨2, _⟩ => rfl]
    exact out_eq X W K hb hr c (j 1) (j 2)
  refine ⟨_, (θ_run _ _ _).mono (fun _ h c => ⟨((h.1 c).1).trans (ho c), (h.1 c).2⟩) (Cert.KernelIdeal.Run.run_main (F := Ideal) m g),
    (θ_run _ _ _).mono (fun _ h => h 0) (Cert.ReferenceIdeal.Value.run (F := Ideal) m' g')⟩

end Cert.Proof

end
-- ==== Proof.lean ====
/- The five claims assembled: the frames of the three programs, the kernel's two named constants, and the value. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Frames
public import proofs.«01_k».proof.Proof.Algebraic

@[expose] public section

noncomputable section

namespace Cert.Proof

/-- Everything that is claimed of the kernel and its reference. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts, frame_kernel, frame_kernelIdeal,
  frame_kernelIdeal_finite, frame_referenceIdeal, frame_referenceIdeal_finite, preserves, algebraic⟩

end Cert.Proof

end
